-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x1024 : Shape := ⟨2, ![256, 1024]⟩
abbrev S1024x1024 : Shape := ⟨2, ![1024, 1024]⟩
abbrev S3x256x1024 : Shape := ⟨3, ![3, 256, 1024]⟩
abbrev S3x2x4 : Shape := ⟨3, ![3, 2, 4]⟩
abbrev S_ : Shape := ⟨0, ![]⟩
abbrev S256x256 : Shape := ⟨2, ![256, 256]⟩
abbrev S1x1x1 : Shape := ⟨3, ![1, 1, 1]⟩
abbrev S1x256x128 : Shape := ⟨3, ![1, 256, 128]⟩
abbrev S256x128 : Shape := ⟨2, ![256, 128]⟩

abbrev nBuf : Space → Nat
  | .hbm => 3
  | .vmem => 4
  | .smem => 0
  | _ => 0

abbrev bufTy : (tb : Table) → Fin (tcTables nBuf tb) → BufTy
  | .hbm, ⟨0, _⟩ => ⟨S1024x256, .f32⟩
  | .hbm, ⟨1, _⟩ => ⟨S256x1024, .f32⟩
  | .hbm, ⟨2, _⟩ => ⟨S1024x1024, .f32⟩
  | .local _ .vmem, ⟨0, _⟩ => ⟨S1024x256, .f32⟩
  | .local _ .vmem, ⟨1, _⟩ => ⟨S256x1024, .f32⟩
  | .local _ .vmem, ⟨2, _⟩ => ⟨S1024x1024, .f32⟩
  | .local _ .vmem, ⟨3, _⟩ => ⟨S3x256x1024, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16_i32_344 : BitVec 32 := 16#32
  let v349 : BitVec 32 := Scalar.addi v2 c16_i32_344
  let c4_i32_345 : BitVec 32 := 4#32
  let v350 : BitVec 32 := Scalar.remsi v349 c4_i32_345
  let c256_i32_346 : BitVec 32 := 256#32
  let v351 : BitVec 32 := Scalar.muli v350 c256_i32_346
  let v352 : Index := Scalar.indexCast v351
  let c0 : Index := 0#32
  ![v352.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16_i32_344 : BitVec 32 := 16#32
  let v349 : BitVec 32 := Scalar.addi v2 c16_i32_344
  let c4_i32_345 : BitVec 32 := 4#32
  let v350 : BitVec 32 := Scalar.remsi v349 c4_i32_345
  let c256_i32_346 : BitVec 32 := 256#32
  let v351 : BitVec 32 := Scalar.muli v350 c256_i32_346
  let v358 : Index := Scalar.indexCast v351
  let c0_349 : Index := 0#32
  ![v358.toNat, 0]
def k0_off3 (d0 : Dev nD) (c0_i32_10 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.subi v2 c0_i32_10
  let c16_i32 : BitVec 32 := 16#32
  let v14 : BitVec 32 := Scalar.addi v13 c16_i32
  let c4_i32_11 : BitVec 32 := 4#32
  let v15 : BitVec 32 := Scalar.remsi v14 c4_i32_11
  let c256_i32 : BitVec 32 := 256#32
  let v16 : BitVec 32 := Scalar.muli v15 c256_i32
  let c0_i32_361 : BitVec 32 := 0#32
  ![v16.toNat, 0]
def k0_dev3 (d0 : Dev nD) : Nat :=
  let c0_i32_358 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_357 : BitVec 32 := 1#32
  let v360 : BitVec 32 := Scalar.muli v7 c1_i32_357
  let v361 : BitVec 32 := Scalar.addi c0_i32_358 v360
  v361.toNat
def k0_off4 (d0 : Dev nD) (c0_i32_24 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v29 : BitVec 32 := Scalar.addi v2 c0_i32_24
  let c16_i32_25 : BitVec 32 := 16#32
  let v30 : BitVec 32 := Scalar.addi v29 c16_i32_25
  let c4_i32_26 : BitVec 32 := 4#32
  let v31 : BitVec 32 := Scalar.remsi v30 c4_i32_26
  let c256_i32_27 : BitVec 32 := 256#32
  let v32 : BitVec 32 := Scalar.muli v31 c256_i32_27
  let c512_i32_372 : BitVec 32 := 512#32
  ![v32.toNat, 512]
def k0_dev4 (d0 : Dev nD) : Nat :=
  let c0_i32_370 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_369 : BitVec 32 := 1#32
  let v369 : BitVec 32 := Scalar.muli v5 c1_i32_369
  let v370 : BitVec 32 := Scalar.addi c0_i32_370 v369
  v370.toNat
def k0_off5 (d0 : Dev nD) (c0_i32_12 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v17 : BitVec 32 := Scalar.subi v2 c0_i32_12
  let c16_i32_13 : BitVec 32 := 16#32
  let v18 : BitVec 32 := Scalar.addi v17 c16_i32_13
  let c4_i32_14 : BitVec 32 := 4#32
  let v19 : BitVec 32 := Scalar.remsi v18 c4_i32_14
  let c256_i32_15 : BitVec 32 := 256#32
  let v20 : BitVec 32 := Scalar.muli v19 c256_i32_15
  let c128_i32_383 : BitVec 32 := 128#32
  ![v20.toNat, 128]
def k0_dev5 (d0 : Dev nD) : Nat :=
  let c0_i32_381 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_380 : BitVec 32 := 1#32
  let v378 : BitVec 32 := Scalar.muli v7 c1_i32_380
  let v379 : BitVec 32 := Scalar.addi c0_i32_381 v378
  v379.toNat
def k0_off6 (d0 : Dev nD) (c0_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.addi v2 c0_i32_28
  let c16_i32_29 : BitVec 32 := 16#32
  let v34 : BitVec 32 := Scalar.addi v33 c16_i32_29
  let c4_i32_30 : BitVec 32 := 4#32
  let v35 : BitVec 32 := Scalar.remsi v34 c4_i32_30
  let c256_i32_31 : BitVec 32 := 256#32
  let v36 : BitVec 32 := Scalar.muli v35 c256_i32_31
  let c640_i32_394 : BitVec 32 := 640#32
  ![v36.toNat, 640]
def k0_dev6 (d0 : Dev nD) : Nat :=
  let c0_i32_392 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_391 : BitVec 32 := 1#32
  let v387 : BitVec 32 := Scalar.muli v5 c1_i32_391
  let v388 : BitVec 32 := Scalar.addi c0_i32_392 v387
  v388.toNat
def k0_off7 (d0 : Dev nD) (c0_i32_16 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v21 : BitVec 32 := Scalar.subi v2 c0_i32_16
  let c16_i32_17 : BitVec 32 := 16#32
  let v22 : BitVec 32 := Scalar.addi v21 c16_i32_17
  let c4_i32_18 : BitVec 32 := 4#32
  let v23 : BitVec 32 := Scalar.remsi v22 c4_i32_18
  let c256_i32_19 : BitVec 32 := 256#32
  let v24 : BitVec 32 := Scalar.muli v23 c256_i32_19
  let c256_i32_406 : BitVec 32 := 256#32
  ![v24.toNat, 256]
def k0_dev7 (d0 : Dev nD) : Nat :=
  let c0_i32_403 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_402 : BitVec 32 := 1#32
  let v396 : BitVec 32 := Scalar.muli v7 c1_i32_402
  let v397 : BitVec 32 := Scalar.addi c0_i32_403 v396
  v397.toNat
def k0_off8 (d0 : Dev nD) (c0_i32_32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v37 : BitVec 32 := Scalar.addi v2 c0_i32_32
  let c16_i32_33 : BitVec 32 := 16#32
  let v38 : BitVec 32 := Scalar.addi v37 c16_i32_33
  let c4_i32_34 : BitVec 32 := 4#32
  let v39 : BitVec 32 := Scalar.remsi v38 c4_i32_34
  let c256_i32_35 : BitVec 32 := 256#32
  let v40 : BitVec 32 := Scalar.muli v39 c256_i32_35
  let c768_i32_417 : BitVec 32 := 768#32
  ![v40.toNat, 768]
def k0_dev8 (d0 : Dev nD) : Nat :=
  let c0_i32_415 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_414 : BitVec 32 := 1#32
  let v405 : BitVec 32 := Scalar.muli v5 c1_i32_414
  let v406 : BitVec 32 := Scalar.addi c0_i32_415 v405
  v406.toNat
def k0_off9 (d0 : Dev nD) (c0_i32_20 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.subi v2 c0_i32_20
  let c16_i32_21 : BitVec 32 := 16#32
  let v26 : BitVec 32 := Scalar.addi v25 c16_i32_21
  let c4_i32_22 : BitVec 32 := 4#32
  let v27 : BitVec 32 := Scalar.remsi v26 c4_i32_22
  let c256_i32_23 : BitVec 32 := 256#32
  let v28 : BitVec 32 := Scalar.muli v27 c256_i32_23
  let c384_i32_427 : BitVec 32 := 384#32
  ![v28.toNat, 384]
def k0_dev9 (d0 : Dev nD) : Nat :=
  let c0_i32_425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_424 : BitVec 32 := 1#32
  let v414 : BitVec 32 := Scalar.muli v7 c1_i32_424
  let v415 : BitVec 32 := Scalar.addi c0_i32_425 v414
  v415.toNat
def k0_off10 (d0 : Dev nD) (c0_i32_36 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v41 : BitVec 32 := Scalar.addi v2 c0_i32_36
  let c16_i32_37 : BitVec 32 := 16#32
  let v42 : BitVec 32 := Scalar.addi v41 c16_i32_37
  let c4_i32_38 : BitVec 32 := 4#32
  let v43 : BitVec 32 := Scalar.remsi v42 c4_i32_38
  let c256_i32_39 : BitVec 32 := 256#32
  let v44 : BitVec 32 := Scalar.muli v43 c256_i32_39
  let c896_i32_438 : BitVec 32 := 896#32
  ![v44.toNat, 896]
def k0_dev10 (d0 : Dev nD) : Nat :=
  let c0_i32_436 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_435 : BitVec 32 := 1#32
  let v423 : BitVec 32 := Scalar.muli v5 c1_i32_435
  let v424 : BitVec 32 := Scalar.addi c0_i32_436 v423
  v424.toNat
def k0_off11 (d0 : Dev nD) (c_m1_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v432 : BitVec 32 := Scalar.addi v2 c_m1_i32
  let c16_i32_439 : BitVec 32 := 16#32
  let v433 : BitVec 32 := Scalar.addi v432 c16_i32_439
  let c4_i32_440 : BitVec 32 := 4#32
  let v434 : BitVec 32 := Scalar.remsi v433 c4_i32_440
  let c256_i32_441 : BitVec 32 := 256#32
  let v435 : BitVec 32 := Scalar.muli v434 c256_i32_441
  let v436 : Index := Scalar.indexCast v435
  let c0_442 : Index := 0#32
  ![v436.toNat, 0]
def k0_off11_at (r : Fin 3) : BitVec 32 :=
  if r.val < 1 then
    4294967295#32
  else
    if r.val < 2 then
      1#32
    else
      2#32
def k0_off12 (d0 : Dev nD) (c_m1_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v432 : BitVec 32 := Scalar.addi v2 c_m1_i32
  let c16_i32_439 : BitVec 32 := 16#32
  let v433 : BitVec 32 := Scalar.addi v432 c16_i32_439
  let c4_i32_440 : BitVec 32 := 4#32
  let v434 : BitVec 32 := Scalar.remsi v433 c4_i32_440
  let c256_i32_441 : BitVec 32 := 256#32
  let v435 : BitVec 32 := Scalar.muli v434 c256_i32_441
  let v442 : Index := Scalar.indexCast v435
  let c0_446 : Index := 0#32
  ![v442.toNat, 0]
def k0_off12_at (r : Fin 3) : BitVec 32 :=
  if r.val < 1 then
    4294967295#32
  else
    if r.val < 2 then
      1#32
    else
      2#32
def k0_off13 (d0 : Dev nD) (c0_i32_489 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v482 : BitVec 32 := Scalar.subi v2 c0_i32_489
  let c1_i32_490 : BitVec 32 := 1#32
  let v483 : BitVec 32 := Scalar.subi v482 c1_i32_490
  let c16_i32_491 : BitVec 32 := 16#32
  let v484 : BitVec 32 := Scalar.addi v483 c16_i32_491
  let c4_i32_492 : BitVec 32 := 4#32
  let v485 : BitVec 32 := Scalar.remsi v484 c4_i32_492
  let c256_i32_493 : BitVec 32 := 256#32
  let v486 : BitVec 32 := Scalar.muli v485 c256_i32_493
  let v487 : Index := Scalar.indexCast v486
  let c0_494 : Index := 0#32
  ![v487.toNat, 0]
def k0_off14 (d0 : Dev nD) (c0_i32_499 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v495 : BitVec 32 := Scalar.addi v2 c0_i32_499
  let c1_i32_500 : BitVec 32 := 1#32
  let v496 : BitVec 32 := Scalar.addi v495 c1_i32_500
  let c16_i32_501 : BitVec 32 := 16#32
  let v497 : BitVec 32 := Scalar.addi v496 c16_i32_501
  let c4_i32_502 : BitVec 32 := 4#32
  let v498 : BitVec 32 := Scalar.remsi v497 c4_i32_502
  let c256_i32_503 : BitVec 32 := 256#32
  let v499 : BitVec 32 := Scalar.muli v498 c256_i32_503
  let v500 : Index := Scalar.indexCast v499
  let c512 : Index := 512#32
  ![v500.toNat, 512]
def k0_dev11 (d0 : Dev nD) : Nat :=
  let c0_i32_516 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_515 : BitVec 32 := 1#32
  let v508 : BitVec 32 := Scalar.muli v7 c1_i32_515
  let v509 : BitVec 32 := Scalar.addi c0_i32_516 v508
  v509.toNat
def k0_dev12 (d0 : Dev nD) : Nat :=
  let c0_i32_528 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_527 : BitVec 32 := 1#32
  let v517 : BitVec 32 := Scalar.muli v5 c1_i32_527
  let v518 : BitVec 32 := Scalar.addi c0_i32_528 v517
  v518.toNat
def k0_off15 (d0 : Dev nD) (c0_i32_556 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v540 : BitVec 32 := Scalar.subi v2 c0_i32_556
  let c1_i32_557 : BitVec 32 := 1#32
  let v541 : BitVec 32 := Scalar.subi v540 c1_i32_557
  let c16_i32_558 : BitVec 32 := 16#32
  let v542 : BitVec 32 := Scalar.addi v541 c16_i32_558
  let c4_i32_559 : BitVec 32 := 4#32
  let v543 : BitVec 32 := Scalar.remsi v542 c4_i32_559
  let c256_i32_560 : BitVec 32 := 256#32
  let v544 : BitVec 32 := Scalar.muli v543 c256_i32_560
  let v545 : Index := Scalar.indexCast v544
  let c128 : Index := 128#32
  ![v545.toNat, 128]
def k0_off16 (d0 : Dev nD) (c0_i32_565 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v553 : BitVec 32 := Scalar.addi v2 c0_i32_565
  let c1_i32_566 : BitVec 32 := 1#32
  let v554 : BitVec 32 := Scalar.addi v553 c1_i32_566
  let c16_i32_567 : BitVec 32 := 16#32
  let v555 : BitVec 32 := Scalar.addi v554 c16_i32_567
  let c4_i32_568 : BitVec 32 := 4#32
  let v556 : BitVec 32 := Scalar.remsi v555 c4_i32_568
  let c256_i32_569 : BitVec 32 := 256#32
  let v557 : BitVec 32 := Scalar.muli v556 c256_i32_569
  let v558 : Index := Scalar.indexCast v557
  let c640 : Index := 640#32
  ![v558.toNat, 640]
def k0_dev13 (d0 : Dev nD) : Nat :=
  let c0_i32_582 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_581 : BitVec 32 := 1#32
  let v566 : BitVec 32 := Scalar.muli v7 c1_i32_581
  let v567 : BitVec 32 := Scalar.addi c0_i32_582 v566
  v567.toNat
def k0_dev14 (d0 : Dev nD) : Nat :=
  let c0_i32_594 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_593 : BitVec 32 := 1#32
  let v575 : BitVec 32 := Scalar.muli v5 c1_i32_593
  let v576 : BitVec 32 := Scalar.addi c0_i32_594 v575
  v576.toNat
def k0_off17 (d0 : Dev nD) (c0_i32_622 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v598 : BitVec 32 := Scalar.subi v2 c0_i32_622
  let c1_i32_623 : BitVec 32 := 1#32
  let v599 : BitVec 32 := Scalar.subi v598 c1_i32_623
  let c16_i32_624 : BitVec 32 := 16#32
  let v600 : BitVec 32 := Scalar.addi v599 c16_i32_624
  let c4_i32_625 : BitVec 32 := 4#32
  let v601 : BitVec 32 := Scalar.remsi v600 c4_i32_625
  let c256_i32_626 : BitVec 32 := 256#32
  let v602 : BitVec 32 := Scalar.muli v601 c256_i32_626
  let v603 : Index := Scalar.indexCast v602
  let c256 : Index := 256#32
  ![v603.toNat, 256]
def k0_off18 (d0 : Dev nD) (c0_i32_631 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v611 : BitVec 32 := Scalar.addi v2 c0_i32_631
  let c1_i32_632 : BitVec 32 := 1#32
  let v612 : BitVec 32 := Scalar.addi v611 c1_i32_632
  let c16_i32_633 : BitVec 32 := 16#32
  let v613 : BitVec 32 := Scalar.addi v612 c16_i32_633
  let c4_i32_634 : BitVec 32 := 4#32
  let v614 : BitVec 32 := Scalar.remsi v613 c4_i32_634
  let c256_i32_635 : BitVec 32 := 256#32
  let v615 : BitVec 32 := Scalar.muli v614 c256_i32_635
  let v616 : Index := Scalar.indexCast v615
  let c768 : Index := 768#32
  ![v616.toNat, 768]
def k0_dev15 (d0 : Dev nD) : Nat :=
  let c0_i32_648 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_647 : BitVec 32 := 1#32
  let v624 : BitVec 32 := Scalar.muli v7 c1_i32_647
  let v625 : BitVec 32 := Scalar.addi c0_i32_648 v624
  v625.toNat
def k0_dev16 (d0 : Dev nD) : Nat :=
  let c0_i32_660 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_659 : BitVec 32 := 1#32
  let v633 : BitVec 32 := Scalar.muli v5 c1_i32_659
  let v634 : BitVec 32 := Scalar.addi c0_i32_660 v633
  v634.toNat
def k0_off19 (d0 : Dev nD) (c0_i32_688 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v656 : BitVec 32 := Scalar.subi v2 c0_i32_688
  let c1_i32_689 : BitVec 32 := 1#32
  let v657 : BitVec 32 := Scalar.subi v656 c1_i32_689
  let c16_i32_690 : BitVec 32 := 16#32
  let v658 : BitVec 32 := Scalar.addi v657 c16_i32_690
  let c4_i32_691 : BitVec 32 := 4#32
  let v659 : BitVec 32 := Scalar.remsi v658 c4_i32_691
  let c256_i32_692 : BitVec 32 := 256#32
  let v660 : BitVec 32 := Scalar.muli v659 c256_i32_692
  let v661 : Index := Scalar.indexCast v660
  let c384 : Index := 384#32
  ![v661.toNat, 384]
def k0_off20 (d0 : Dev nD) (c0_i32_697 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v669 : BitVec 32 := Scalar.addi v2 c0_i32_697
  let c1_i32_698 : BitVec 32 := 1#32
  let v670 : BitVec 32 := Scalar.addi v669 c1_i32_698
  let c16_i32_699 : BitVec 32 := 16#32
  let v671 : BitVec 32 := Scalar.addi v670 c16_i32_699
  let c4_i32_700 : BitVec 32 := 4#32
  let v672 : BitVec 32 := Scalar.remsi v671 c4_i32_700
  let c256_i32_701 : BitVec 32 := 256#32
  let v673 : BitVec 32 := Scalar.muli v672 c256_i32_701
  let v674 : Index := Scalar.indexCast v673
  let c896 : Index := 896#32
  ![v674.toNat, 896]
def k0_dev17 (d0 : Dev nD) : Nat :=
  let c0_i32_714 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_713 : BitVec 32 := 1#32
  let v682 : BitVec 32 := Scalar.muli v7 c1_i32_713
  let v683 : BitVec 32 := Scalar.addi c0_i32_714 v682
  v683.toNat
def k0_dev18 (d0 : Dev nD) : Nat :=
  let c0_i32_726 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_725 : BitVec 32 := 1#32
  let v691 : BitVec 32 := Scalar.muli v5 c1_i32_725
  let v692 : BitVec 32 := Scalar.addi c0_i32_726 v691
  v692.toNat
def k0_dev19 (d0 : Dev nD) : Nat :=
  let c0_i32_781 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_780 : BitVec 32 := 1#32
  let v740 : BitVec 32 := Scalar.muli v7 c1_i32_780
  let v741 : BitVec 32 := Scalar.addi c0_i32_781 v740
  v741.toNat
def k0_dev20 (d0 : Dev nD) : Nat :=
  let c0_i32_793 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_792 : BitVec 32 := 1#32
  let v749 : BitVec 32 := Scalar.muli v5 c1_i32_792
  let v750 : BitVec 32 := Scalar.addi c0_i32_793 v749
  v750.toNat
def k0_dev21 (d0 : Dev nD) : Nat :=
  let c0_i32_849 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_848 : BitVec 32 := 1#32
  let v798 : BitVec 32 := Scalar.muli v7 c1_i32_848
  let v799 : BitVec 32 := Scalar.addi c0_i32_849 v798
  v799.toNat
def k0_dev22 (d0 : Dev nD) : Nat :=
  let c0_i32_861 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_860 : BitVec 32 := 1#32
  let v807 : BitVec 32 := Scalar.muli v5 c1_i32_860
  let v808 : BitVec 32 := Scalar.addi c0_i32_861 v807
  v808.toNat
def k0_dev23 (d0 : Dev nD) : Nat :=
  let c0_i32_917 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_916 : BitVec 32 := 1#32
  let v856 : BitVec 32 := Scalar.muli v7 c1_i32_916
  let v857 : BitVec 32 := Scalar.addi c0_i32_917 v856
  v857.toNat
def k0_dev24 (d0 : Dev nD) : Nat :=
  let c0_i32_929 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_928 : BitVec 32 := 1#32
  let v865 : BitVec 32 := Scalar.muli v5 c1_i32_928
  let v866 : BitVec 32 := Scalar.addi c0_i32_929 v865
  v866.toNat
def k0_dev25 (d0 : Dev nD) : Nat :=
  let c0_i32_985 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_984 : BitVec 32 := 1#32
  let v914 : BitVec 32 := Scalar.muli v7 c1_i32_984
  let v915 : BitVec 32 := Scalar.addi c0_i32_985 v914
  v915.toNat
def k0_dev26 (d0 : Dev nD) : Nat :=
  let c0_i32_997 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_996 : BitVec 32 := 1#32
  let v923 : BitVec 32 := Scalar.muli v5 c1_i32_996
  let v924 : BitVec 32 := Scalar.addi c0_i32_997 v923
  v924.toNat
def k0_off21 (d0 : Dev nD) (c0_i32_110 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_109 : BitVec 32 := 1#32
  let v114 : BitVec 32 := Scalar.addi v2 c1_i32_109
  let v115 : BitVec 32 := Scalar.subi v114 c0_i32_110
  let c16_i32_111 : BitVec 32 := 16#32
  let v116 : BitVec 32 := Scalar.addi v115 c16_i32_111
  let c4_i32_112 : BitVec 32 := 4#32
  let v117 : BitVec 32 := Scalar.remsi v116 c4_i32_112
  let c256_i32_113 : BitVec 32 := 256#32
  let v118 : BitVec 32 := Scalar.muli v117 c256_i32_113
  let c0_i32_1052 : BitVec 32 := 0#32
  ![v118.toNat, 0]
def k0_dev27 (d0 : Dev nD) : Nat :=
  let c0_i32_1051 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1050 : BitVec 32 := 1#32
  let v972 : BitVec 32 := Scalar.muli v7 c1_i32_1050
  let v973 : BitVec 32 := Scalar.addi c0_i32_1051 v972
  v973.toNat
def k0_off22 (d0 : Dev nD) (c0_i32_150 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_149 : BitVec 32 := 1#32
  let v154 : BitVec 32 := Scalar.subi v2 c1_i32_149
  let v155 : BitVec 32 := Scalar.addi v154 c0_i32_150
  let c16_i32_151 : BitVec 32 := 16#32
  let v156 : BitVec 32 := Scalar.addi v155 c16_i32_151
  let c4_i32_152 : BitVec 32 := 4#32
  let v157 : BitVec 32 := Scalar.remsi v156 c4_i32_152
  let c256_i32_153 : BitVec 32 := 256#32
  let v158 : BitVec 32 := Scalar.muli v157 c256_i32_153
  let c512_i32_1062 : BitVec 32 := 512#32
  ![v158.toNat, 512]
def k0_dev28 (d0 : Dev nD) : Nat :=
  let c0_i32_1061 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1060 : BitVec 32 := 1#32
  let v980 : BitVec 32 := Scalar.muli v5 c1_i32_1060
  let v981 : BitVec 32 := Scalar.addi c0_i32_1061 v980
  v981.toNat
def k0_off23 (d0 : Dev nD) (c0_i32_120 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_119 : BitVec 32 := 1#32
  let v124 : BitVec 32 := Scalar.addi v2 c1_i32_119
  let v125 : BitVec 32 := Scalar.subi v124 c0_i32_120
  let c16_i32_121 : BitVec 32 := 16#32
  let v126 : BitVec 32 := Scalar.addi v125 c16_i32_121
  let c4_i32_122 : BitVec 32 := 4#32
  let v127 : BitVec 32 := Scalar.remsi v126 c4_i32_122
  let c256_i32_123 : BitVec 32 := 256#32
  let v128 : BitVec 32 := Scalar.muli v127 c256_i32_123
  let c128_i32_1116 : BitVec 32 := 128#32
  ![v128.toNat, 128]
def k0_dev29 (d0 : Dev nD) : Nat :=
  let c0_i32_1115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1114 : BitVec 32 := 1#32
  let v1028 : BitVec 32 := Scalar.muli v7 c1_i32_1114
  let v1029 : BitVec 32 := Scalar.addi c0_i32_1115 v1028
  v1029.toNat
def k0_off24 (d0 : Dev nD) (c0_i32_160 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_159 : BitVec 32 := 1#32
  let v164 : BitVec 32 := Scalar.subi v2 c1_i32_159
  let v165 : BitVec 32 := Scalar.addi v164 c0_i32_160
  let c16_i32_161 : BitVec 32 := 16#32
  let v166 : BitVec 32 := Scalar.addi v165 c16_i32_161
  let c4_i32_162 : BitVec 32 := 4#32
  let v167 : BitVec 32 := Scalar.remsi v166 c4_i32_162
  let c256_i32_163 : BitVec 32 := 256#32
  let v168 : BitVec 32 := Scalar.muli v167 c256_i32_163
  let c640_i32_1126 : BitVec 32 := 640#32
  ![v168.toNat, 640]
def k0_dev30 (d0 : Dev nD) : Nat :=
  let c0_i32_1125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1124 : BitVec 32 := 1#32
  let v1036 : BitVec 32 := Scalar.muli v5 c1_i32_1124
  let v1037 : BitVec 32 := Scalar.addi c0_i32_1125 v1036
  v1037.toNat
def k0_off25 (d0 : Dev nD) (c0_i32_130 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_129 : BitVec 32 := 1#32
  let v134 : BitVec 32 := Scalar.addi v2 c1_i32_129
  let v135 : BitVec 32 := Scalar.subi v134 c0_i32_130
  let c16_i32_131 : BitVec 32 := 16#32
  let v136 : BitVec 32 := Scalar.addi v135 c16_i32_131
  let c4_i32_132 : BitVec 32 := 4#32
  let v137 : BitVec 32 := Scalar.remsi v136 c4_i32_132
  let c256_i32_133 : BitVec 32 := 256#32
  let v138 : BitVec 32 := Scalar.muli v137 c256_i32_133
  let c256_i32_1180 : BitVec 32 := 256#32
  ![v138.toNat, 256]
def k0_dev31 (d0 : Dev nD) : Nat :=
  let c0_i32_1179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1178 : BitVec 32 := 1#32
  let v1084 : BitVec 32 := Scalar.muli v7 c1_i32_1178
  let v1085 : BitVec 32 := Scalar.addi c0_i32_1179 v1084
  v1085.toNat
def k0_off26 (d0 : Dev nD) (c0_i32_170 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_169 : BitVec 32 := 1#32
  let v174 : BitVec 32 := Scalar.subi v2 c1_i32_169
  let v175 : BitVec 32 := Scalar.addi v174 c0_i32_170
  let c16_i32_171 : BitVec 32 := 16#32
  let v176 : BitVec 32 := Scalar.addi v175 c16_i32_171
  let c4_i32_172 : BitVec 32 := 4#32
  let v177 : BitVec 32 := Scalar.remsi v176 c4_i32_172
  let c256_i32_173 : BitVec 32 := 256#32
  let v178 : BitVec 32 := Scalar.muli v177 c256_i32_173
  let c768_i32_1190 : BitVec 32 := 768#32
  ![v178.toNat, 768]
def k0_dev32 (d0 : Dev nD) : Nat :=
  let c0_i32_1189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1188 : BitVec 32 := 1#32
  let v1092 : BitVec 32 := Scalar.muli v5 c1_i32_1188
  let v1093 : BitVec 32 := Scalar.addi c0_i32_1189 v1092
  v1093.toNat
def k0_off27 (d0 : Dev nD) (c0_i32_140 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_139 : BitVec 32 := 1#32
  let v144 : BitVec 32 := Scalar.addi v2 c1_i32_139
  let v145 : BitVec 32 := Scalar.subi v144 c0_i32_140
  let c16_i32_141 : BitVec 32 := 16#32
  let v146 : BitVec 32 := Scalar.addi v145 c16_i32_141
  let c4_i32_142 : BitVec 32 := 4#32
  let v147 : BitVec 32 := Scalar.remsi v146 c4_i32_142
  let c256_i32_143 : BitVec 32 := 256#32
  let v148 : BitVec 32 := Scalar.muli v147 c256_i32_143
  let c384_i32_1244 : BitVec 32 := 384#32
  ![v148.toNat, 384]
def k0_dev33 (d0 : Dev nD) : Nat :=
  let c0_i32_1243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1242 : BitVec 32 := 1#32
  let v1140 : BitVec 32 := Scalar.muli v7 c1_i32_1242
  let v1141 : BitVec 32 := Scalar.addi c0_i32_1243 v1140
  v1141.toNat
def k0_off28 (d0 : Dev nD) (c0_i32_180 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_179 : BitVec 32 := 1#32
  let v184 : BitVec 32 := Scalar.subi v2 c1_i32_179
  let v185 : BitVec 32 := Scalar.addi v184 c0_i32_180
  let c16_i32_181 : BitVec 32 := 16#32
  let v186 : BitVec 32 := Scalar.addi v185 c16_i32_181
  let c4_i32_182 : BitVec 32 := 4#32
  let v187 : BitVec 32 := Scalar.remsi v186 c4_i32_182
  let c256_i32_183 : BitVec 32 := 256#32
  let v188 : BitVec 32 := Scalar.muli v187 c256_i32_183
  let c896_i32_1254 : BitVec 32 := 896#32
  ![v188.toNat, 896]
def k0_dev34 (d0 : Dev nD) : Nat :=
  let c0_i32_1253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1252 : BitVec 32 := 1#32
  let v1148 : BitVec 32 := Scalar.muli v5 c1_i32_1252
  let v1149 : BitVec 32 := Scalar.addi c0_i32_1253 v1148
  v1149.toNat
def k0_dev35 (d0 : Dev nD) : Nat :=
  let c0_i32_1283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1282 : BitVec 32 := 1#32
  let v1168 : BitVec 32 := Scalar.muli v7 c1_i32_1282
  let v1169 : BitVec 32 := Scalar.addi c0_i32_1283 v1168
  v1169.toNat
def k0_dev36 (d0 : Dev nD) : Nat :=
  let c0_i32_1293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1292 : BitVec 32 := 1#32
  let v1176 : BitVec 32 := Scalar.muli v5 c1_i32_1292
  let v1177 : BitVec 32 := Scalar.addi c0_i32_1293 v1176
  v1177.toNat
def k0_dev37 (d0 : Dev nD) : Nat :=
  let c0_i32_1323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1322 : BitVec 32 := 1#32
  let v1196 : BitVec 32 := Scalar.muli v7 c1_i32_1322
  let v1197 : BitVec 32 := Scalar.addi c0_i32_1323 v1196
  v1197.toNat
def k0_dev38 (d0 : Dev nD) : Nat :=
  let c0_i32_1333 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1332 : BitVec 32 := 1#32
  let v1204 : BitVec 32 := Scalar.muli v5 c1_i32_1332
  let v1205 : BitVec 32 := Scalar.addi c0_i32_1333 v1204
  v1205.toNat
def k0_dev39 (d0 : Dev nD) : Nat :=
  let c0_i32_1363 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1362 : BitVec 32 := 1#32
  let v1224 : BitVec 32 := Scalar.muli v7 c1_i32_1362
  let v1225 : BitVec 32 := Scalar.addi c0_i32_1363 v1224
  v1225.toNat
def k0_dev40 (d0 : Dev nD) : Nat :=
  let c0_i32_1373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1372 : BitVec 32 := 1#32
  let v1232 : BitVec 32 := Scalar.muli v5 c1_i32_1372
  let v1233 : BitVec 32 := Scalar.addi c0_i32_1373 v1232
  v1233.toNat
def k0_dev41 (d0 : Dev nD) : Nat :=
  let c0_i32_1403 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1402 : BitVec 32 := 1#32
  let v1252 : BitVec 32 := Scalar.muli v7 c1_i32_1402
  let v1253 : BitVec 32 := Scalar.addi c0_i32_1403 v1252
  v1253.toNat
def k0_dev42 (d0 : Dev nD) : Nat :=
  let c0_i32_1413 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1412 : BitVec 32 := 1#32
  let v1260 : BitVec 32 := Scalar.muli v5 c1_i32_1412
  let v1261 : BitVec 32 := Scalar.addi c0_i32_1413 v1260
  v1261.toNat
def k0_dev43 (d0 : Dev nD) : Nat :=
  let c0_i32_1443 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1442 : BitVec 32 := 1#32
  let v1280 : BitVec 32 := Scalar.muli v7 c1_i32_1442
  let v1281 : BitVec 32 := Scalar.addi c0_i32_1443 v1280
  v1281.toNat
def k0_dev44 (d0 : Dev nD) : Nat :=
  let c0_i32_1453 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1452 : BitVec 32 := 1#32
  let v1288 : BitVec 32 := Scalar.muli v5 c1_i32_1452
  let v1289 : BitVec 32 := Scalar.addi c0_i32_1453 v1288
  v1289.toNat
def k0_dev45 (d0 : Dev nD) : Nat :=
  let c0_i32_1483 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1482 : BitVec 32 := 1#32
  let v1308 : BitVec 32 := Scalar.muli v7 c1_i32_1482
  let v1309 : BitVec 32 := Scalar.addi c0_i32_1483 v1308
  v1309.toNat
def k0_dev46 (d0 : Dev nD) : Nat :=
  let c0_i32_1493 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1492 : BitVec 32 := 1#32
  let v1316 : BitVec 32 := Scalar.muli v5 c1_i32_1492
  let v1317 : BitVec 32 := Scalar.addi c0_i32_1493 v1316
  v1317.toNat
def k0_dev47 (d0 : Dev nD) : Nat :=
  let c0_i32_1523 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1522 : BitVec 32 := 1#32
  let v1336 : BitVec 32 := Scalar.muli v7 c1_i32_1522
  let v1337 : BitVec 32 := Scalar.addi c0_i32_1523 v1336
  v1337.toNat
def k0_dev48 (d0 : Dev nD) : Nat :=
  let c0_i32_1533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1532 : BitVec 32 := 1#32
  let v1344 : BitVec 32 := Scalar.muli v5 c1_i32_1532
  let v1345 : BitVec 32 := Scalar.addi c0_i32_1533 v1344
  v1345.toNat
def k0_dev49 (d0 : Dev nD) : Nat :=
  let c0_i32_1563 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1562 : BitVec 32 := 1#32
  let v1364 : BitVec 32 := Scalar.muli v7 c1_i32_1562
  let v1365 : BitVec 32 := Scalar.addi c0_i32_1563 v1364
  v1365.toNat
def k0_dev50 (d0 : Dev nD) : Nat :=
  let c0_i32_1573 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1572 : BitVec 32 := 1#32
  let v1372 : BitVec 32 := Scalar.muli v5 c1_i32_1572
  let v1373 : BitVec 32 := Scalar.addi c0_i32_1573 v1372
  v1373.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Flat.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Tactic

@[expose] public section

/-! # The kernel's body as one list of actions

The body is a straight line: the barrier, four products, and then copies, waits and additions, each of
which belongs to one of eight strips of columns. Here the body is written as a list of such actions, and
the printed body is shown to be the run of that list. -/

noncomputable section

namespace Cert.KernelIdeal.Gen

open Idealize.ShloMosaic Idealize.ShloMosaic.TcCoe Idealize.SL.Sem

variable {F : FTy → Type} [FloatOps F]

/-- The offsets of the blocks the reduce-scatter sends, strip by strip. -/
def rsOffs : List (Dev nD → BitVec 32 → Fin 2 → ℕ) :=
  [k0_off3, k0_off4, k0_off5, k0_off6, k0_off7, k0_off8, k0_off9, k0_off10]
/-- The offsets of the blocks an arriving copy is added to, strip by strip. -/
def accOffs : List (Dev nD → BitVec 32 → Fin 2 → ℕ) :=
  [k0_off13, k0_off14, k0_off15, k0_off16, k0_off17, k0_off18, k0_off19, k0_off20]
/-- The offsets of the blocks the all-gather sends, strip by strip. -/
def agOffs : List (Dev nD → BitVec 32 → Fin 2 → ℕ) :=
  [k0_off21, k0_off22, k0_off23, k0_off24, k0_off25, k0_off26, k0_off27, k0_off28]
/-- The device each copy goes to, in the order of the copies. -/
def devTab : List (Dev nD → Dev nD) :=
  [fun c => ⟨k0_dev3 c, k0_dev3_lt c⟩, fun c => ⟨k0_dev4 c, k0_dev4_lt c⟩, fun c => ⟨k0_dev5 c, k0_dev5_lt c⟩, fun c => ⟨k0_dev6 c, k0_dev6_lt c⟩, fun c => ⟨k0_dev7 c, k0_dev7_lt c⟩, fun c => ⟨k0_dev8 c, k0_dev8_lt c⟩, fun c => ⟨k0_dev9 c, k0_dev9_lt c⟩, fun c => ⟨k0_dev10 c, k0_dev10_lt c⟩,
   fun c => ⟨k0_dev11 c, k0_dev11_lt c⟩, fun c => ⟨k0_dev12 c, k0_dev12_lt c⟩, fun c => ⟨k0_dev13 c, k0_dev13_lt c⟩, fun c => ⟨k0_dev14 c, k0_dev14_lt c⟩, fun c => ⟨k0_dev15 c, k0_dev15_lt c⟩, fun c => ⟨k0_dev16 c, k0_dev16_lt c⟩, fun c => ⟨k0_dev17 c, k0_dev17_lt c⟩, fun c => ⟨k0_dev18 c, k0_dev18_lt c⟩,
   fun c => ⟨k0_dev19 c, k0_dev19_lt c⟩, fun c => ⟨k0_dev20 c, k0_dev20_lt c⟩, fun c => ⟨k0_dev21 c, k0_dev21_lt c⟩, fun c => ⟨k0_dev22 c, k0_dev22_lt c⟩, fun c => ⟨k0_dev23 c, k0_dev23_lt c⟩, fun c => ⟨k0_dev24 c, k0_dev24_lt c⟩, fun c => ⟨k0_dev25 c, k0_dev25_lt c⟩, fun c => ⟨k0_dev26 c, k0_dev26_lt c⟩,
   fun c => ⟨k0_dev27 c, k0_dev27_lt c⟩, fun c => ⟨k0_dev28 c, k0_dev28_lt c⟩, fun c => ⟨k0_dev29 c, k0_dev29_lt c⟩, fun c => ⟨k0_dev30 c, k0_dev30_lt c⟩, fun c => ⟨k0_dev31 c, k0_dev31_lt c⟩, fun c => ⟨k0_dev32 c, k0_dev32_lt c⟩, fun c => ⟨k0_dev33 c, k0_dev33_lt c⟩, fun c => ⟨k0_dev34 c, k0_dev34_lt c⟩,
   fun c => ⟨k0_dev35 c, k0_dev35_lt c⟩, fun c => ⟨k0_dev36 c, k0_dev36_lt c⟩, fun c => ⟨k0_dev37 c, k0_dev37_lt c⟩, fun c => ⟨k0_dev38 c, k0_dev38_lt c⟩, fun c => ⟨k0_dev39 c, k0_dev39_lt c⟩, fun c => ⟨k0_dev40 c, k0_dev40_lt c⟩, fun c => ⟨k0_dev41 c, k0_dev41_lt c⟩, fun c => ⟨k0_dev42 c, k0_dev42_lt c⟩,
   fun c => ⟨k0_dev43 c, k0_dev43_lt c⟩, fun c => ⟨k0_dev44 c, k0_dev44_lt c⟩, fun c => ⟨k0_dev45 c, k0_dev45_lt c⟩, fun c => ⟨k0_dev46 c, k0_dev46_lt c⟩, fun c => ⟨k0_dev47 c, k0_dev47_lt c⟩, fun c => ⟨k0_dev48 c, k0_dev48_lt c⟩, fun c => ⟨k0_dev49 c, k0_dev49_lt c⟩, fun c => ⟨k0_dev50 c, k0_dev50_lt c⟩]

/-- The offset at strip `(d, j)` and step `s` of one of the three tables. -/
def offAt (l : List (Dev nD → BitVec 32 → Fin 2 → ℕ)) (s : Fin 3) (d : Fin 2) (j : Fin 4) (c : Dev nD) : Fin 2 → ℕ :=
  (l.getD (2 * j.val + d.val) k0_off3) c (BitVec.ofNat 32 s.val)
/-- The target of the copy of hop `h` on strip `(d, j)`. -/
def devAt (h : Fin 6) (d : Fin 2) (j : Fin 4) (c : Dev nD) : Dev nD :=
  (devTab.getD (8 * h.val + 2 * j.val + d.val) id) c
/-- The all-gather's step `s` is hop `s + 3`. -/
def hopA (s : Fin 3) : Fin 6 := ⟨3 + s.val, by omega⟩
def hopR (s : Fin 3) : Fin 6 := ⟨s.val, by omega⟩

/-- The block of rows that direction `d` treats at step `k` on device `c`. -/
def chn (d : Fin 2) (k : ℕ) (c : Dev nD) : ℕ := if d = 0 then (c.val + 16 - k) % 4 else (c.val + k) % 4

theorem rsOff_eq : ∀ s d j c, offAt rsOffs s d j c = ![256 * chn d s.val c, 512 * d.val + 128 * j.val] := by decide +kernel
theorem accOff_eq : ∀ s d j c, offAt accOffs s d j c = ![256 * chn d (s.val + 1) c, 512 * d.val + 128 * j.val] := by decide +kernel
theorem agOff_eq : ∀ s d j c, offAt agOffs s d j c = ![256 * chn d (s.val + 3) c, 512 * d.val + 128 * j.val] := by decide +kernel

theorem chn_lt (d : Fin 2) (k : ℕ) (c : Dev nD) : chn d k c < 4 := by unfold chn; split <;> omega
/-- A strip's block lies inside the result. -/
theorem strip_inb (d : Fin 2) (j : Fin 4) {k : ℕ} (hk : k < 4) :
    ∀ a, (![256 * k, 512 * d.val + 128 * j.val] : Fin 2 → ℕ) a + S256x128.size a ≤ S1024x1024.size a := by
  intro a; fin_cases a
  · show 256 * k + 256 ≤ 1024; omega
  · show 512 * d.val + 128 * j.val + 128 ≤ 1024; omega
theorem rs_inb (s d j c) : ∀ a, offAt rsOffs s d j c a + S256x128.size a ≤ S1024x1024.size a := by
  rw [rsOff_eq]; exact strip_inb d j (chn_lt _ _ _)
theorem acc_inb (s d j c) : ∀ a, offAt accOffs s d j c a + S256x128.size a ≤ S1024x1024.size a := by
  rw [accOff_eq]; exact strip_inb d j (chn_lt _ _ _)
theorem ag_inb (s d j c) : ∀ a, offAt agOffs s d j c a + S256x128.size a ≤ S1024x1024.size a := by
  rw [agOff_eq]; exact strip_inb d j (chn_lt _ _ _)
theorem sem_inb (s : Fin 3) (d : Fin 2) (j : Fin 4) :
    ∀ a, (![s.val, d.val, j.val] : Fin 3 → ℕ) a + S1x1x1.size a ≤ S3x2x4.size a := by
  intro a; fin_cases a
  · show s.val + 1 ≤ 3; omega
  · show d.val + 1 ≤ 2; omega
  · show j.val + 1 ≤ 4; omega
theorem comm_inb (s : Fin 3) (d : Fin 2) (j : Fin 4) :
    ∀ a, (![s.val, 0, 512 * d.val + 128 * j.val] : Fin 3 → ℕ) a + S1x256x128.size a ≤ S3x256x1024.size a := by
  intro a; fin_cases a
  · show s.val + 1 ≤ 3; omega
  · show 0 + 256 ≤ 256; omega
  · show 512 * d.val + 128 * j.val + 128 ≤ 1024; omega

/-- One semaphore of an array of them. -/
abbrev semAt (a : DmaSems sig S3x2x4) (s : Fin 3) (d : Fin 2) (j : Fin 4) : DmaSem sig :=
  ((a.slice (Rect.unit (s := S3x2x4) ![s.val, d.val, j.val] S1x1x1.size (sem_inb s d j))).squeeze S_ squeezes_S1x1x1_S_).sem
/-- One block of the result. -/
abbrev outB (a : Memref sig .tc .vmem S1024x1024 .f32) (off : Fin 2 → ℕ) (h : ∀ a, off a + S256x128.size a ≤ S1024x1024.size a) :
    Memref sig .tc .vmem S256x128 .f32 := a.slice (Rect.unit (s := S1024x1024) off S256x128.size h) (fun _ => rfl)
/-- One block of the landing buffer. -/
abbrev commB (a : Memref sig .tc .vmem S3x256x1024 .f32) (s : Fin 3) (d : Fin 2) (j : Fin 4) : Memref sig .tc .vmem S256x128 .f32 :=
  (a.slice (Rect.unit (s := S3x256x1024) ![s.val, 0, 512 * d.val + 128 * j.val] S1x256x128.size (comm_inb s d j)) (fun _ => rfl)).squeeze
    S256x128 squeezes_S1x256x128_S256x128

/-- What one strip does. -/
inductive Act where
  /-- a copy of the reduce-scatter / of the all-gather leaves -/
  | rs (s : Fin 3) (d : Fin 2) (j : Fin 4)
  | ag (s : Fin 3) (d : Fin 2) (j : Fin 4)
  /-- the neighbour's copy is awaited -/
  | gotR (s : Fin 3) (d : Fin 2) (j : Fin 4)
  | gotA (s : Fin 3) (d : Fin 2) (j : Fin 4)
  /-- what arrived is added -/
  | acc (s : Fin 3) (d : Fin 2) (j : Fin 4)
  /-- the own copy is awaited -/
  | doneR (s : Fin 3) (d : Fin 2) (j : Fin 4)
  | doneA (s : Fin 3) (d : Fin 2) (j : Fin 4)

section Run
variable (a2 : Memref sig .tc .vmem S1024x1024 .f32) (a3 : Memref sig .tc .vmem S3x256x1024 .f32)
  (a4 a5 a6 a7 : DmaSems sig S3x2x4)

/-- The program of one action on device `c`. -/
def Act.run (c : Dev nD) : Act → Prog (TpuEff nD τ sig (Elt F) Λ₀ .tc) PUnit
  | .rs s d j => Prog.lift (.enqueueDma (outB a2 (offAt rsOffs s d j c) (rs_inb s d j c))
      (.remote (Dev.tc (devAt (hopR s) d j c)) (commB a3 s d j) (.dma (semAt a4 s d j))) (.dma (semAt a5 s d j))
      (View.wordExact_bits rfl) ((View.wordExact_bits rfl).reshape _ _) ⟨⟨rfl, Or.inl rfl⟩, trivial⟩)
  | .ag s d j => Prog.lift (.enqueueDma (outB a2 (offAt agOffs s d j c) (ag_inb s d j c))
      (.remote (Dev.tc (devAt (hopA s) d j c)) (outB a2 (offAt agOffs s d j c) (ag_inb s d j c)) (.dma (semAt a6 s d j))) (.dma (semAt a7 s d j))
      (View.wordExact_bits rfl) (View.wordExact_bits rfl) ⟨⟨rfl, Or.inl rfl⟩, trivial⟩)
  | .gotR s d j => Prog.lift (.waitDma2 (semAt a5 s d j) (outB a2 (offAt rsOffs s d j c) (rs_inb s d j c)) (commB a3 s d j)
      (View.wordExact_bits rfl) ((View.wordExact_bits rfl).reshape _ _))
  | .gotA s d j => Prog.lift (.waitDma2 (semAt a7 s d j) (outB a2 (offAt agOffs s d j c) (ag_inb s d j c)) (outB a2 (offAt agOffs s d j c) (ag_inb s d j c))
      (View.wordExact_bits rfl) (View.wordExact_bits rfl))
  | .acc s d j => do
      let x ← Prog.lift (.load a2 (Rect.unit (s := S1024x1024) (offAt accOffs s d j c) S256x128.size (acc_inb s d j c)).toLoadRect (View.loadsAt_vmem h_S256x128))
      let y ← Prog.lift (.load a3 (Rect.unit (s := S3x256x1024) ![s.val, 0, 512 * d.val + 128 * j.val] S1x256x128.size (comm_inb s d j)).toLoadRect (View.loadsAt_vmem h_S1x256x128))
      let _ ← Prog.lift (.load a2 (Rect.unit (s := S1024x1024) (offAt accOffs s d j c) S256x128.size (acc_inb s d j c)).toLoadRect (View.loadsAt_vmem h_S256x128))
      Prog.lift (.store a2 (Rect.unit (s := S1024x1024) (offAt accOffs s d j c) S256x128.size (acc_inb s d j c)) (k0_pay9 x y) Finset.univ (View.stores_vmem_bits_univ h_S256x128 rfl) (.inl rfl))
  | .doneR s d j => Prog.lift (.waitDma2 (semAt a4 s d j) (commB a3 s d j) (outB a2 (offAt rsOffs s d j c) (rs_inb s d j c))
      ((View.wordExact_bits rfl).reshape _ _) (View.wordExact_bits rfl))
  | .doneA s d j => Prog.lift (.waitDma2 (semAt a6 s d j) (outB a2 (offAt agOffs s d j c) (ag_inb s d j c)) (outB a2 (offAt agOffs s d j c) (ag_inb s d j c))
      (View.wordExact_bits rfl) (View.wordExact_bits rfl))

/-- A list of actions, one after the other, and then a program. -/
def runAll (c : Dev nD) (k : Prog (TpuEff nD τ sig (Elt F) Λ₀ .tc) PUnit) : List Act → Prog (TpuEff nD τ sig (Elt F) Λ₀ .tc) PUnit
  | [] => k
  | a :: l => a.run a2 a3 a4 a5 a6 a7 c >>= fun _ => runAll c k l

end Run

/-- The strips in the order the kernel visits them, an action each. -/
abbrev strips (f : Fin 2 → Fin 4 → List Act) : List Act := ([0, 1, 2, 3] : List (Fin 4)).flatMap fun j => f 0 j ++ f 1 j
/-- The first copies. -/
def acts0 : List Act := strips fun d j => [.rs 0 d j]
/-- Everything after the products. -/
def acts1 : List Act :=
  (([0, 1] : List (Fin 3)).flatMap fun s => ([0, 1, 2, 3] : List (Fin 4)).flatMap fun j =>
      [.gotR s 0 j, .gotR s 1 j, .acc s 0 j, .acc s 1 j, .rs (s + 1) 0 j, .rs (s + 1) 1 j])
    ++ (([0, 1, 2, 3] : List (Fin 4)).flatMap fun j =>
      [.gotR 2 0 j, .gotR 2 1 j, .acc 2 0 j, .acc 2 1 j, .ag 0 0 j, .ag 0 1 j])
    ++ (([0, 1] : List (Fin 3)).flatMap fun s => ([0, 1, 2, 3] : List (Fin 4)).flatMap fun j =>
      [.gotA s 0 j, .gotA s 1 j, .ag (s + 1) 0 j, .ag (s + 1) 1 j])
    ++ (strips fun d j => [.gotA 2 d j])
    ++ (([0, 1, 2] : List (Fin 3)).flatMap fun s => ([0, 1] : List (Fin 2)).flatMap fun d => ([0, 1, 2, 3] : List (Fin 4)).map fun j => .doneR s d j)
    ++ (([0, 1, 2] : List (Fin 3)).flatMap fun s => ([0, 1] : List (Fin 2)).flatMap fun d => ([0, 1, 2, 3] : List (Fin 4)).map fun j => .doneA s d j)

section Flat
variable (a0 : Memref sig .tc .vmem S1024x256 .f32) (a1 : Memref sig .tc .vmem S256x1024 .f32)
  (a2 : Memref sig .tc .vmem S1024x1024 .f32) (a3 : Memref sig .tc .vmem S3x256x1024 .f32)
  (a4 a5 a6 a7 : DmaSems sig S3x2x4)

/-- The product of one block of rows of the first operand with the second, stored in the same rows of the
    result, and then a program. -/
def gemm (offX : Fin 2 → ℕ) (hX : ∀ a, offX a + S256x256.size a ≤ S1024x256.size a)
    (offO : Fin 2 → ℕ) (hO : ∀ a, offO a + S256x1024.size a ≤ S1024x1024.size a)
    (k : Prog (TpuEff nD τ sig (Elt F) Λ₀ .tc) PUnit) : Prog (TpuEff nD τ sig (Elt F) Λ₀ .tc) PUnit := do
  let x ← Prog.lift (.load a0 (Rect.unit (s := S1024x256) offX S256x256.size hX).toLoadRect (View.loadsAt_vmem h_S256x256))
  let w ← Prog.lift (.load a1 (Rect.unit (s := S256x1024) ![0, 0] S256x1024.size inb_S256x1024_S256x1024_0_0).toLoadRect (View.loadsAt_vmem h_S256x1024))
  let _ ← Prog.lift (.load a2 (Rect.unit (s := S1024x1024) offO S256x1024.size hO).toLoadRect (View.loadsAt_vmem h_S256x1024))
  Prog.lift (.store a2 (Rect.unit (s := S1024x1024) offO S256x1024.size hO) (k0_pay1 x w) Finset.univ (View.stores_vmem_bits_univ h_S256x1024 rfl) (.inl rfl))
  k

/-- The barrier with the two neighbours, and then a program. -/
def barrier (c : Dev nD) (k : Prog (TpuEff nD τ sig (Elt F) Λ₀ .tc) PUnit) : Prog (TpuEff nD τ sig (Elt F) Λ₀ .tc) PUnit := do
  semSignalWord (⟨k0_dev1 c, k0_dev1_lt c⟩ : Dev nD) (SemArray.scalar (sig.barrier 0 rfl) : Sems sig S_).sem 1#32
  semSignalWord (⟨k0_dev2 c, k0_dev2_lt c⟩ : Dev nD) (SemArray.scalar (sig.barrier 0 rfl) : Sems sig S_).sem 1#32
  semWaitWord (SemArray.scalar (sig.barrier 0 rfl) : Sems sig S_).sem 2#32
  k

/-- The whole body on device `c`. -/
def flat (c : Dev nD) : Prog (TpuEff nD τ sig (Elt F) Λ₀ .tc) PUnit :=
  barrier c
    (gemm a0 a1 a2 (k0_off1 c) (k0_off1_inb c) (k0_off2 c) (k0_off2_inb c)
      (runAll a2 a3 a4 a5 a6 a7 c
        (gemm a0 a1 a2 (k0_off11 c 4294967295#32) (k0_off11_inb c 0) (k0_off12 c 4294967295#32) (k0_off12_inb c 0)
          (gemm a0 a1 a2 (k0_off11 c 1#32) (k0_off11_inb c 1) (k0_off12 c 1#32) (k0_off12_inb c 1)
            (gemm a0 a1 a2 (k0_off11 c 2#32) (k0_off11_inb c 2) (k0_off12 c 2#32) (k0_off12_inb c 2)
              (runAll a2 a3 a4 a5 a6 a7 c (pure ⟨⟩) acts1))))
        acts0))

set_option maxRecDepth 65536 in
/-- The printed body is that list. -/
theorem body_flat (h0 h1 h2 h3) :
    cc0_body (F := F) a0 h0 a1 h1 a2 h2 a3 h3 a4 a5 a6 a7 = Prog.op .deviceId fun c => flat a0 a1 a2 a3 a4 a5 a6 a7 c := by
  chain_rfl

end Flat

end Cert.KernelIdeal.Gen

end
-- ==== Proof.Values.lean ====
module

public import proofs.«01_k».proof.Proof.Flat
public import Idealize.ShloMosaic.Lib.ValueLayout
public import Idealize.ShloMosaic.Lib.Pipeline.Value

@[expose] public section

/-! # What the buffers hold

The result of a device is cut into blocks of 256 rows and 128 columns. A strip `(d, j)` is the 128 columns
`512 d + 128 j, …`; strips with `d = 0` travel to the next device, those with `d = 1` to the previous one.
`acc d s c` is the partial sum of `s + 1` devices' products ending at device `c`; `fin` is the whole sum. -/

noncomputable section

namespace Cert.KernelIdeal.Gen

open Idealize.ShloMosaic Idealize.ShloMosaic.TcCoe Idealize.SL.Sem Idealize.ShloMosaic.ValueIdx

variable {F : FTy → Type} [FloatOps F]

/-! ## The ring -/

/-- Where direction `d` sends to. -/
def nx (d : Fin 2) (c : Dev nD) : Dev nD := ⟨(c.val + 1 + 2 * d.val) % 4, Nat.mod_lt _ (by decide)⟩
/-- Where direction `d` receives from. -/
def pv (d : Fin 2) (c : Dev nD) : Dev nD := ⟨(c.val + 3 + 2 * d.val) % 4, Nat.mod_lt _ (by decide)⟩
/-- The block of rows direction `d` treats at step `k` on device `c`. -/
def ch (d : Fin 2) (k : ℕ) (c : Dev nD) : Fin 4 := ⟨chn d k c, chn_lt d k c⟩
/-- The device at which the sum of block `k` ends. -/
def own (d : Fin 2) (k : Fin 4) : Dev nD := ⟨(k.val + 3 + 2 * d.val) % 4, Nat.mod_lt _ (by decide)⟩

theorem pv_nx (d c) : pv d (nx d c) = c := by revert d c; decide
theorem nx_pv (d c) : nx d (pv d c) = c := by revert d c; decide
theorem nx_flip (d c) : nx d (nx (1 - d) c) = c := by revert d c; decide
theorem ch_pv (d : Fin 2) (s : Fin 3) (c : Dev nD) : ch d s.val (pv d c) = ch d (s.val + 1) c := by revert d s c; decide
theorem ch_nx (d : Fin 2) (s : Fin 3) (c : Dev nD) : ch d s.val (nx d c) = ch d (s.val + 3) c := by revert d s c; decide
theorem own_ch (d c) : own d (ch d 3 c) = c := by revert d c; decide
theorem devAt_eq : ∀ h d j c, devAt h d j c = nx d c := by decide +kernel

/-! ## Blocks and their elements -/

abbrev xM : Memref sig .tc .vmem S1024x256 .f32 := Memref.whole cc0_stg0_0
abbrev wM : Memref sig .tc .vmem S256x1024 .f32 := Memref.whole cc0_stg1_0
abbrev oM : Memref sig .tc .vmem S1024x1024 .f32 := Memref.whole cc0_stg2_0
abbrev kM : Memref sig .tc .vmem S3x256x1024 .f32 := Memref.whole cc0_scratch0

/-- Where the block of strip `(d, j)` in rows `256 k, …` begins. -/
abbrev offP (k : Fin 4) (d : Fin 2) (j : Fin 4) : Fin 2 → ℕ := ![256 * k.val, 512 * d.val + 128 * j.val]
/-- A block of the result. -/
abbrev oB (k : Fin 4) (d : Fin 2) (j : Fin 4) : Memref sig .tc .vmem S256x128 .f32 := outB oM (offP k d j) (strip_inb d j k.isLt)
/-- A block of the landing buffer. -/
abbrev kB (s : Fin 3) (d : Fin 2) (j : Fin 4) : Memref sig .tc .vmem S256x128 .f32 := commB kM s d j
abbrev oR (k : Fin 4) (d : Fin 2) (j : Fin 4) : Rect S1024x1024 := Rect.unit (s := S1024x1024) (offP k d j) S256x128.size (strip_inb d j k.isLt)
abbrev kR (s : Fin 3) (d : Fin 2) (j : Fin 4) : Rect S3x256x1024 :=
  Rect.unit (s := S3x256x1024) ![s.val, 0, 512 * d.val + 128 * j.val] S1x256x128.size (comm_inb s d j)
/-- The elements of a block of the result, -/
def oP (k : Fin 4) (d : Fin 2) (j : Fin 4) : Finset S1024x1024.Idx := (oR k d j).set
/-- and of a block of the landing buffer. -/
def kP (s : Fin 3) (d : Fin 2) (j : Fin 4) : Finset S3x256x1024.Idx := (kR s d j).set

theorem oB_set (k d j) : (oB k d j).view.set = oP k d j := View.set_slice_whole cc0_stg2_0 (oR k d j)
theorem kB_set (s d j) : (kB s d j).view.set = kP s d j :=
  (View.set_reshape _ _).trans (View.set_slice_whole cc0_scratch0 (kR s d j))

theorem mem_oP {k : Fin 4} {d : Fin 2} {j : Fin 4} {i : S1024x1024.Idx} :
    i ∈ oP k d j ↔ (i 0).val / 256 = k.val ∧ (i 1).val / 128 = 4 * d.val + j.val := by
  unfold oP oR
  rw [Rect.mem_set_unit]
  constructor
  · intro h
    have h0 : 256 * k.val ≤ (i 0).val ∧ (i 0).val < 256 * k.val + 256 := h 0
    have h1 : 512 * d.val + 128 * j.val ≤ (i 1).val ∧ (i 1).val < 512 * d.val + 128 * j.val + 128 := h 1
    omega
  · rintro ⟨h0, h1⟩ a
    fin_cases a
    · show 256 * k.val ≤ (i 0).val ∧ (i 0).val < 256 * k.val + 256; omega
    · show 512 * d.val + 128 * j.val ≤ (i 1).val ∧ (i 1).val < 512 * d.val + 128 * j.val + 128; omega
theorem mem_kP {s : Fin 3} {d : Fin 2} {j : Fin 4} {i : S3x256x1024.Idx} :
    i ∈ kP s d j ↔ (i 0).val = s.val ∧ (i 2).val / 128 = 4 * d.val + j.val := by
  unfold kP kR
  rw [Rect.mem_set_unit]
  constructor
  · intro h
    have h0 : s.val ≤ (i 0).val ∧ (i 0).val < s.val + 1 := h 0
    have h1 : 512 * d.val + 128 * j.val ≤ (i 2).val ∧ (i 2).val < 512 * d.val + 128 * j.val + 128 := h 2
    omega
  · rintro ⟨h0, h1⟩ a
    fin_cases a
    · show s.val ≤ (i 0).val ∧ (i 0).val < s.val + 1; omega
    · have := (i 1).isLt; show 0 ≤ (i 1).val ∧ (i 1).val < 0 + 256; exact ⟨Nat.zero_le _, by simpa using this⟩
    · show 512 * d.val + 128 * j.val ≤ (i 2).val ∧ (i 2).val < 512 * d.val + 128 * j.val + 128; omega

theorem strip_lt (d : Fin 2) (j : Fin 4) (b : Fin 128) : 512 * d.val + 128 * j.val + b.val < 1024 := by omega
theorem row_lt (k : Fin 4) (a : Fin 256) : 256 * k.val + a.val < 1024 := by omega
/-- Element `(a, b)` of any block. -/
def bI (a : Fin 256) (b : Fin 128) : S256x128.Idx := ix2 a b
theorem eq_bI (x : S256x128.Idx) : ∃ a b, x = bI a b := ⟨x 0, x 1, eq_ix2 x⟩
/-- Element `(a, b)` of the block of strip `(d, j)` in rows `256 k, …`. -/
def oI (k : Fin 4) (d : Fin 2) (j : Fin 4) (a : Fin 256) (b : Fin 128) : S1024x1024.Idx :=
  ix2 (⟨256 * k.val + a.val, row_lt k a⟩ : Fin 1024) (⟨512 * d.val + 128 * j.val + b.val, strip_lt d j b⟩ : Fin 1024)
/-- Element `(a, b)` of the landing block of strip `(d, j)` and step `s`. -/
def kI (s : Fin 3) (d : Fin 2) (j : Fin 4) (a : Fin 256) (b : Fin 128) : S3x256x1024.Idx :=
  ix3 s a (⟨512 * d.val + 128 * j.val + b.val, strip_lt d j b⟩ : Fin 1024)

theorem oR_emb (k d j) (a : Fin 256) (b : Fin 128) : (oR k d j).emb (bI a b) = oI k d j a b := by
  funext t
  fin_cases t
  · exact Fin.ext (show 256 * k.val + 1 * a.val = 256 * k.val + a.val by omega)
  · exact Fin.ext (show 512 * d.val + 128 * j.val + 1 * b.val = 512 * d.val + 128 * j.val + b.val by omega)
theorem oB_emb (k d j) (a : Fin 256) (b : Fin 128) : (oB k d j).view.emb (bI a b) = oI k d j a b := oR_emb k d j a b
theorem kR_emb (s d j) (a : Fin 256) (b : Fin 128) : (kR s d j).emb (ix3 (⟨0, Nat.one_pos⟩ : Fin 1) a b) = kI s d j a b := by
  funext t
  fin_cases t
  · exact Fin.ext (show s.val + 1 * 0 = s.val by omega)
  · exact Fin.ext (show 0 + 1 * a.val = a.val by omega)
  · exact Fin.ext (show 512 * d.val + 128 * j.val + 1 * b.val = 512 * d.val + 128 * j.val + b.val by omega)
theorem kB_emb (s d j) (a : Fin 256) (b : Fin 128) : (kB s d j).view.emb (bI a b) = kI s d j a b :=
  (congrArg (kR s d j).emb (reshapeEquiv_ix2_1ab _ a b)).trans (kR_emb s d j a b)

/-- A statement on the elements of a block, element by element. -/
theorem forall_oP {k d j} {p : S1024x1024.Idx → Prop} (h : ∀ a b, p (oI k d j a b)) : ∀ i ∈ oP k d j, p i := by
  intro i hi
  rw [← oB_set] at hi
  obtain ⟨x, -, rfl⟩ := Finset.mem_map.mp hi
  obtain ⟨a, b, rfl⟩ := eq_bI x
  exact (congrArg p (oB_emb k d j a b)).mpr (h a b)
theorem forall_kP {s d j} {p : S3x256x1024.Idx → Prop} (h : ∀ a b, p (kI s d j a b)) : ∀ i ∈ kP s d j, p i := by
  intro i hi
  rw [← kB_set] at hi
  obtain ⟨x, -, rfl⟩ := Finset.mem_map.mp hi
  obtain ⟨a, b, rfl⟩ := eq_bI x
  exact (congrArg p (kB_emb s d j a b)).mpr (h a b)

theorem oB_write (k d j) (f : Vec F S1024x1024 .f32) (w : Vec F S256x128 .f32) (a b) :
    (oB k d j).view.write (Elt F) f w Finset.univ (oI k d j a b) = w (bI a b) :=
  (congrArg _ (oB_emb k d j a b).symm).trans (View.write_emb_of_mem _ _ (Finset.mem_univ _))
theorem kB_write (s d j) (f : Vec F S3x256x1024 .f32) (w : Vec F S256x128 .f32) (a b) :
    (kB s d j).view.write (Elt F) f w Finset.univ (kI s d j a b) = w (bI a b) :=
  (congrArg _ (kB_emb s d j a b).symm).trans (View.write_emb_of_mem _ _ (Finset.mem_univ _))
theorem oB_read (k d j) (f : Vec F S1024x1024 .f32) (a b) : (oB k d j).view.read (Elt F) f (bI a b) = f (oI k d j a b) :=
  congrArg f (oB_emb k d j a b)

/-! ## Rows of four strips -/

abbrev rowOff (k : Fin 4) : Fin 2 → ℕ := ![256 * k.val, 0]
theorem rowO_inb (k : Fin 4) : ∀ a, rowOff k a + S256x1024.size a ≤ S1024x1024.size a := by
  intro a; fin_cases a
  · show 256 * k.val + 256 ≤ 1024; omega
  · show 0 + 1024 ≤ 1024; omega
theorem rowX_inb (k : Fin 4) : ∀ a, rowOff k a + S256x256.size a ≤ S1024x256.size a := by
  intro a; fin_cases a
  · show 256 * k.val + 256 ≤ 1024; omega
  · show 0 + 256 ≤ 256; omega
abbrev rowR (k : Fin 4) : Rect S1024x1024 := Rect.unit (s := S1024x1024) (rowOff k) S256x1024.size (rowO_inb k)
/-- The elements of the rows `256 k, …` of the result. -/
def rP (k : Fin 4) : Finset S1024x1024.Idx := (rowR k).set
theorem mem_rP {k : Fin 4} {i : S1024x1024.Idx} : i ∈ rP k ↔ (i 0).val / 256 = k.val := by
  unfold rP
  rw [Rect.mem_set_unit]
  constructor
  · intro h
    have h0 : 256 * k.val ≤ (i 0).val ∧ (i 0).val < 256 * k.val + 256 := h 0
    omega
  · rintro h0 a
    fin_cases a
    · show 256 * k.val ≤ (i 0).val ∧ (i 0).val < 256 * k.val + 256; omega
    · have := (i 1).isLt; show 0 ≤ (i 1).val ∧ (i 1).val < 0 + 1024; exact ⟨Nat.zero_le _, by simpa using this⟩

theorem gemmOff_self (c : Dev nD) : k0_off1 c = rowOff (ch 0 0 c) ∧ k0_off2 c = rowOff (ch 0 0 c) := by revert c; decide +kernel
theorem gemmOff_prev (c : Dev nD) : k0_off11 c 4294967295#32 = rowOff (ch 0 1 c) ∧ k0_off12 c 4294967295#32 = rowOff (ch 0 1 c) := by
  revert c; decide +kernel
theorem gemmOff_next (c : Dev nD) : k0_off11 c 1#32 = rowOff (ch 0 3 c) ∧ k0_off12 c 1#32 = rowOff (ch 0 3 c) := by revert c; decide +kernel
theorem gemmOff_far (c : Dev nD) : k0_off11 c 2#32 = rowOff (ch 0 2 c) ∧ k0_off12 c 2#32 = rowOff (ch 0 2 c) := by revert c; decide +kernel

/-! ## The contents -/

section Contents
variable (X : Dev nD → Vec F S1024x256 .f32) (W : Dev nD → Vec F S256x1024 .f32)

/-- The rows `256 k, …` of a device's first operand, as loaded. -/
def xrow (k : Fin 4) (x : Vec F S1024x256 .f32) : Vec F S256x256 .f32 :=
  xM.view.readAt (Elt F) (Rect.unit (s := S1024x256) (rowOff k) S256x256.size (rowX_inb k)).toLoadRect x

/-- A device's own product, every element as its block of rows computes it. -/
def prod (c : Dev nD) : Vec F S1024x1024 .f32 := fun i =>
  k0_pay1 (xrow ⟨(i 0).val / 256, by have : (i 0).val < 1024 := (i 0).isLt; omega⟩ (X c)) (W c)
    (ix2 (⟨(i 0).val % 256, Nat.mod_lt _ (by decide)⟩ : Fin 256) (⟨(i 1).val, (i 1).isLt⟩ : Fin 1024))

/-- The sum of the products of `s + 1` devices ending at `c`, along direction `d`. -/
def acc (d : Fin 2) : ℕ → Dev nD → Vec F S1024x1024 .f32
  | 0, c => prod X W c
  | s + 1, c => fun i => FloatOps.addf (φ := .f32) (prod X W c i) (acc d s (pv d c) i)

/-- The direction of a column. -/
def dirOf (q : Fin 1024) : Fin 2 := ⟨q.val / 512, by omega⟩

/-- The whole sum. -/
def fin : Vec F S1024x1024 .f32 := fun i =>
  acc X W (dirOf (i 1)) 3 (own (dirOf (i 1)) ⟨(i 0).val / 256, by have : (i 0).val < 1024 := (i 0).isLt; omega⟩) i

/-- What arrives in the landing buffer of device `c`. -/
def landed (c : Dev nD) : Vec F S3x256x1024 .f32 := fun i =>
  acc X W (dirOf (i 2)) (i 0).val (pv (dirOf (i 2)) c)
    (ix2 (⟨256 * (ch (dirOf (i 2)) (i 0).val (pv (dirOf (i 2)) c)).val + (i 1).val, row_lt _ (i 1)⟩ : Fin 1024) (i 2))

omit [FloatOps F] in
theorem dirOf_strip (d : Fin 2) (j : Fin 4) (b : Fin 128) : dirOf ⟨512 * d.val + 128 * j.val + b.val, strip_lt d j b⟩ = d :=
  Fin.ext (by show (512 * d.val + 128 * j.val + b.val) / 512 = d.val; omega)

theorem landed_kI (c : Dev nD) (s d j a b) : landed X W c (kI s d j a b) = acc X W d s.val (pv d c) (oI (ch d s.val (pv d c)) d j a b) := by
  unfold landed
  show acc X W (dirOf ⟨512 * d.val + 128 * j.val + b.val, strip_lt d j b⟩) s.val _ _ = _
  congr 1
  · exact dirOf_strip d j b
  · show pv (dirOf ⟨512 * d.val + 128 * j.val + b.val, strip_lt d j b⟩) c = _; rw [dirOf_strip]
  · show ix2 (⟨256 * (ch (dirOf ⟨512 * d.val + 128 * j.val + b.val, strip_lt d j b⟩) s.val (pv (dirOf ⟨512 * d.val + 128 * j.val + b.val, strip_lt d j b⟩) c)).val + a.val, _⟩ : Fin 1024) _ = _
    congr 1
    exact Fin.ext (by show 256 * (ch _ _ _).val + a.val = _; rw [dirOf_strip])

theorem fin_oI (k d j a b) : fin X W (oI k d j a b) = acc X W d 3 (own d k) (oI k d j a b) := by
  unfold fin
  show acc X W (dirOf ⟨512 * d.val + 128 * j.val + b.val, strip_lt d j b⟩) 3 (own (dirOf ⟨512 * d.val + 128 * j.val + b.val, strip_lt d j b⟩) _) _ = _
  rw [dirOf_strip]
  congr 2
  exact Fin.ext (by show (256 * k.val + a.val) / 256 = k.val; omega)

/-- The copy of step `s` leaves its block in the next device's landing buffer. -/
theorem landed_of_send (c : Dev nD) (s d j) (f : Vec F S3x256x1024 .f32) : ∀ i ∈ kP s d j,
    (kB s d j).view.write (Elt F) f ((oB (ch d s.val c) d j).view.read (Elt F) (acc X W d s.val c)) Finset.univ i = landed X W (nx d c) i :=
  forall_kP fun a b => by rw [kB_write, oB_read, landed_kI, pv_nx]

/-- A copy of a block of the whole sum leaves that block of the whole sum. -/
theorem fin_of_send (k d j) (f : Vec F S1024x1024 .f32) : ∀ i ∈ oP k d j,
    (oB k d j).view.write (Elt F) f ((oB k d j).view.read (Elt F) (fin X W)) Finset.univ i = fin X W i :=
  forall_oP fun a b => by rw [oB_write, oB_read]

/-- After three additions a device holds its block of the whole sum. -/
theorem acc_fin (c : Dev nD) (d j) : ∀ i ∈ oP (ch d 3 c) d j, acc X W d 3 c i = fin X W i :=
  forall_oP fun a b => by rw [fin_oI, own_ch]

theorem pay9_apply (x : Vec F S256x128 .f32) (y : Vec F S1x256x128 .f32) (a : Fin 256) (b : Fin 128) :
    k0_pay9 x y (bI a b) = FloatOps.addf (φ := .f32) (x (bI a b)) (y (ix3 (0 : Fin 1) a b)) := by
  unfold k0_pay9
  exact congrArg₂ (FloatOps.addf (φ := .f32)) (congrFun (shapeCast_self x _) (bI a b)) (shapeCast_1ab_ab_apply y _ a b)

/-- The addition of what arrived at step `s`. -/
theorem acc_of_add (c : Dev nD) (s : Fin 3) (d j) (f : Vec F S1024x1024 .f32) (h : ∀ i ∈ oP (ch d (s.val + 1) c) d j, f i = prod X W c i) :
    ∀ i ∈ oP (ch d (s.val + 1) c) d j,
    (oM.access (oR (ch d (s.val + 1) c) d j)).write (Elt F) f
      (k0_pay9 (oM.view.readAt (Elt F) (oR (ch d (s.val + 1) c) d j).toLoadRect (prod X W c)) (kM.view.readAt (Elt F) (kR s d j).toLoadRect (landed X W c)))
      Finset.univ i = acc X W d (s.val + 1) c i :=
  forall_oP fun a b => by
    refine (oB_write (ch d (s.val + 1) c) d j f _ a b).trans ?_
    rw [pay9_apply]
    show _ = FloatOps.addf (φ := .f32) _ _
    congr 1
    · exact congrArg (prod X W c) (oR_emb (ch d (s.val + 1) c) d j a b)
    · refine (congrArg (landed X W c) (kR_emb s d j a b)).trans ?_
      rw [landed_kI, ch_pv]

/-- A block product leaves its rows of the device's product. -/
theorem prod_of_gemm (c : Dev nD) (k : Fin 4) (f : Vec F S1024x1024 .f32) : ∀ i ∈ rP k,
    (oM.access (rowR k)).write (Elt F) f (k0_pay1 (xrow k (X c)) (W c)) Finset.univ i = prod X W c i := by
  intro i hi
  have hs : (oM.access (rowR k)).set = rP k := View.set_slice_whole cc0_stg2_0 (rowR k)
  rw [← hs] at hi
  obtain ⟨x, -, rfl⟩ := Finset.mem_map.mp hi
  rw [View.write_emb_of_mem _ _ (Finset.mem_univ _)]
  have h0 : ((oM.access (rowR k)).emb x 0).val = 256 * k.val + (x 0).val := by show 256 * k.val + 1 * (x 0).val = _; simp
  have h1 : ((oM.access (rowR k)).emb x 1).val = (x 1).val := by show 0 + 1 * (x 1).val = _; simp
  have hx : (x 0).val < 256 := (x 0).isLt
  unfold prod
  show k0_pay1 _ _ x = _
  congr 1
  · congr 1
    exact Fin.ext (by show k.val = ((oM.access (rowR k)).emb x 0).val / 256; rw [h0]; omega)
  · rw [eq_ix2 x]
    congr 1
    · exact Fin.ext (by show (x 0).val = ((oM.access (rowR k)).emb x 0).val % 256; rw [h0]; omega)
    · exact Fin.ext (by show (x 1).val = ((oM.access (rowR k)).emb x 1).val; rw [h1])

end Contents

end Cert.KernelIdeal.Gen

end
-- ==== Proof.Protocol.lean ====
module

public import proofs.«01_k».proof.Proof.Values
public import Idealize.ShloMosaic.Lib.Pipeline.Launch
public import Idealize.ShloMosaic.Lib.Pipeline.Kit
public import Idealize.ShloMosaic.Lib.Tactic

@[expose] public section

/-! # The protocol

Every copy has a cell of its own at the sender and one at the receiver, each used for one round. Hop `h` of a
strip is a copy of the reduce-scatter (`h < 3`) or of the all-gather. An arrival of hop `h` carries, besides the
data, the right to write the blocks the copies before it were read from, so that the all-gather may write into
them later. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (X : Dev nD → Vec F S1024x256 .f32) (Y : Dev nD → Vec F S256x1024 .f32)

/-! ## Cells -/

/-- The barrier's semaphore. -/
abbrev barS : Sem sig := (SemArray.scalar (sig.barrier 0 rfl) : Sems sig S_).sem
/-- The semaphore of hop `h` on strip `(d, j)`: the sender's (`k = 0`) and the receiver's (`k = 1`). -/
def sN (k : Fin 2) (h : Fin 6) (d : Fin 2) (j : Fin 4) : DmaSem sig :=
  ⟨3 + 48 * (h.val / 3) + 24 * k.val + 8 * (h.val % 3) + 4 * d.val + j.val, by show _ < 99; omega⟩
/-- Which of them a semaphore is. -/
def kOf (i : DmaSem sig) : Fin 2 := ⟨(i.val - 3) / 24 % 2, by omega⟩
def hOf (i : DmaSem sig) : Fin 6 := ⟨3 * ((i.val - 3) / 48) + (i.val - 3) % 24 / 8, by have : i.val < 99 := i.isLt; omega⟩
def dOf (i : DmaSem sig) : Fin 2 := ⟨(i.val - 3) % 8 / 4, by omega⟩
def jOf (i : DmaSem sig) : Fin 4 := ⟨(i.val - 3) % 4, by omega⟩
theorem kOf_sN (k h d j) : kOf (sN k h d j) = k := by revert k h d j; decide
theorem hOf_sN (k h d j) : hOf (sN k h d j) = h := by revert k h d j; decide
theorem dOf_sN (k h d j) : dOf (sN k h d j) = d := by revert k h d j; decide
theorem jOf_sN (k h d j) : jOf (sN k h d j) = j := by revert k h d j; decide
theorem three_le_sN (k h d j) : 3 ≤ (sN k h d j).val := by show 3 ≤ 3 + _ + _ + _ + _ + _; omega
theorem semAt_1 : ∀ s d j, semAt cc0_scratch1 s d j = sN 0 (hopR s) d j := by decide +kernel
theorem semAt_2 : ∀ s d j, semAt cc0_scratch2 s d j = sN 1 (hopR s) d j := by decide +kernel
theorem semAt_3 : ∀ s d j, semAt cc0_scratch3 s d j = sN 0 (hopA s) d j := by decide +kernel
theorem semAt_4 : ∀ s d j, semAt cc0_scratch4 s d j = sN 1 (hopA s) d j := by decide +kernel

abbrev barC (c : Dev nD) : GSem nD τ sig := ((c : Thread nD τ), .reg barS)
abbrev cell (k : Fin 2) (h : Fin 6) (d : Fin 2) (j : Fin 4) (c : Dev nD) : GSem nD τ sig := ((c : Thread nD τ), .dma (sN k h d j))

/-- What a copy of one block signals. -/
abbrev N : ℕ := (oB 0 0 0).view.dmaCredit
theorem N_pos : 0 < N := View.dmaCredit_pos _ (by decide)
theorem oB_credit (k d j) : (oB k d j).view.dmaCredit = N := rfl
theorem kB_credit (s d j) : (kB s d j).view.dmaCredit = N := rfl

/-! ## Blocks held -/

/-- A block of a device's result at given contents, -/
def oPt (c : Dev nD) (k : Fin 4) (d : Fin 2) (j : Fin 4) (f : Vec F S1024x1024 .f32) : sProp 𝕄 :=
  ((c : Thread nD τ).loc cc0_stg2_0) ↦[oP k d j]{fullShare} f
/-- at any; -/
def oAny (c : Dev nD) (k : Fin 4) (d : Fin 2) (j : Fin 4) : sProp 𝕄 := iprop(∃ f : Vec F S1024x1024 .f32, oPt c k d j f)
/-- a block of its landing buffer at given contents, -/
def kPt (c : Dev nD) (s : Fin 3) (d : Fin 2) (j : Fin 4) (f : Vec F S3x256x1024 .f32) : sProp 𝕄 :=
  ((c : Thread nD τ).loc cc0_scratch0) ↦[kP s d j]{fullShare} f
/-- at any. -/
def kAny (c : Dev nD) (s : Fin 3) (d : Fin 2) (j : Fin 4) : sProp 𝕄 := iprop(∃ f : Vec F S3x256x1024 .f32, kPt c s d j f)

omit [FloatOps F] in
theorem oPt_congr {c k d j} {f g : Vec F S1024x1024 .f32} (h : ∀ i ∈ oP k d j, f i = g i) : oPt c k d j f = oPt c k d j g := pointsTo_congr h
omit [FloatOps F] in
theorem kPt_congr {c s d j} {f g : Vec F S3x256x1024 .f32} (h : ∀ i ∈ kP s d j, f i = g i) : kPt c s d j f = kPt c s d j g := pointsTo_congr h
omit [FloatOps F] in
instance (c k d j) (f : Vec F S1024x1024 .f32) : BI.Storable (upEmb : UEmb _ 𝕄) (oPt c k d j f) := by unfold oPt; infer_instance
omit [FloatOps F] in
instance (c k d j) : BI.Storable (upEmb : UEmb _ 𝕄) (oAny (F := F) c k d j) := by unfold oAny; infer_instance
omit [FloatOps F] in
instance (c s d j) (f : Vec F S3x256x1024 .f32) : BI.Storable (upEmb : UEmb _ 𝕄) (kPt c s d j f) := by unfold kPt; infer_instance
omit [FloatOps F] in
instance (c s d j) : BI.Storable (upEmb : UEmb _ 𝕄) (kAny (F := F) c s d j) := by unfold kAny; infer_instance

/-- The other devices' blocks a device may write after its arrival of hop `h - 1`. -/
def bun (d : Fin 2) (j : Fin 4) (c : Dev nD) : ℕ → sProp 𝕄
  | 1 => oAny (pv d c) (ch d 0 (pv d c)) d j
  | 2 => iprop(oAny (pv d c) (ch d 1 (pv d c)) d j ∗ oAny (pv d (pv d c)) (ch d 0 (pv d (pv d c))) d j)
  | 3 => iprop(oAny (nx d c) (ch d 0 (nx d c)) d j ∗ oAny (pv d c) (ch d 2 (pv d c)) d j ∗ oAny (pv d (pv d c)) (ch d 1 (pv d (pv d c))) d j)
  | 4 => iprop(oAny (nx d c) (ch d 1 (nx d c)) d j ∗ oAny (pv d (pv d c)) (ch d 2 (pv d (pv d c))) d j)
  | 5 => oAny (nx d c) (ch d 2 (nx d c)) d j
  | _ => iprop(emp)

theorem nx_nx (d c) : nx d (nx d c) = pv d (pv d c) := by revert d c; decide

omit [FloatOps F] in
/-- What the reduce-scatter's copy of step `s` passes on. -/
theorem bun_rs (d j c) (s : Fin 3) : iprop(oAny (F := F) c (ch d s.val c) d j ∗ bun d j c s.val) ⊢ bun d j (nx d c) (s.val + 1) := by
  fin_cases s <;> simp only [bun, pv_nx, nx_nx]
  · exact (sep_emp (PROP := sProp 𝕄)).1
  · exact Entails.refl _
  · iintro ⟨H1, H2, H3⟩
    isplitl [H3]; · iexact H3
    isplitl [H1] <;> iassumption
omit [FloatOps F] in
/-- What the all-gather's copy of step `s` writes and passes on. -/
theorem bun_ag (d j c) (s : Fin 3) : bun (F := F) d j c (s.val + 3) ⊢ iprop(oAny (nx d c) (ch d s.val (nx d c)) d j ∗ bun d j (nx d c) (s.val + 4)) := by
  fin_cases s <;> simp only [bun, pv_nx, nx_nx]
  · iintro ⟨H1, H2, H3⟩
    isplitl [H1]; · iexact H1
    isplitl [H3] <;> iassumption
  · exact Entails.refl _
  · exact (sep_emp (PROP := sProp 𝕄)).2
omit [FloatOps F] in
instance (d j c n) : BI.Storable (upEmb : UEmb _ 𝕄) (bun (F := F) d j c n) := by unfold bun; split <;> infer_instance

/-! ## The schedule -/

/-- The data of an arrival. -/
def dat (h : Fin 6) (d : Fin 2) (j : Fin 4) (c : Dev nD) : sProp 𝕄 :=
  if hh : h.val < 3 then kPt c ⟨h.val, hh⟩ d j (landed X Y c) else oPt c (ch d (h.val - 3) c) d j (fin X Y)
def recvPay (h : Fin 6) (d : Fin 2) (j : Fin 4) (c : Dev nD) : sProp 𝕄 := iprop(dat X Y h d j c ∗ bun d j c (h.val + 1))
/-- What a sender gets back. -/
def sendPay (h : Fin 6) (d : Fin 2) (j : Fin 4) (c : Dev nD) : sProp 𝕄 :=
  if h.val < 3 then iprop(emp) else oPt c (ch d h.val c) d j (fin X Y)
/-- The neighbour's landing blocks that the barrier hands over. -/
def barPay (d : Fin 2) (c : Dev nD) : sProp 𝕄 := bigSep Finset.univ fun j : Fin 4 => bigSep Finset.univ fun s : Fin 3 => kAny (nx d c) s d j

instance (h d j c) : BI.Storable (upEmb : UEmb _ 𝕄) (recvPay X Y h d j c) := by unfold recvPay dat; split <;> infer_instance
instance (h d j c) : BI.Storable (upEmb : UEmb _ 𝕄) (sendPay X Y h d j c) := by unfold sendPay; split <;> infer_instance
omit [FloatOps F] in
instance (d c) : BI.Storable (upEmb : UEmb _ 𝕄) (barPay (F := F) d c) := by unfold barPay; infer_instance

def Rd : Rounds.Schedule (GSem nD τ sig) (Fin 2) 𝕄 where
  duties g r := if r = 0 then (match g.2 with | .reg _ => Finset.univ | .dma _ => {0}) else ∅
  unitless _ := False
  amount g _ _ := match g.2 with | .reg _ => 1 | .dma _ => N
  payload g _ d := match g.2 with
    | .reg _ => barPay d g.1.1
    | .dma i => if kOf i = 0 then sendPay X Y (hOf i) (dOf i) (jOf i) g.1.1 else recvPay X Y (hOf i) (dOf i) (jOf i) g.1.1
  amount_pos g _ _ _ := by split; exacts [Nat.one_pos, N_pos]

instance (g : GSem nD τ sig) (r : ℕ) (d : Fin 2) : BI.Storable (upEmb : UEmb _ 𝕄) ((Rd X Y).payload g r d) := by
  obtain ⟨t, _ | i⟩ := g
  · show BI.Storable upEmb (barPay d t.1); infer_instance
  · show BI.Storable upEmb (if kOf i = 0 then sendPay X Y (hOf i) (dOf i) (jOf i) t.1 else recvPay X Y (hOf i) (dOf i) (jOf i) t.1)
    split <;> infer_instance

section Sched
variable (k : Fin 2) (h : Fin 6) (d : Fin 2) (j : Fin 4) (c : Dev nD)

theorem duties_bar : (Rd X Y).duties (barC c) 0 = Finset.univ := rfl
theorem duties_cell : (Rd X Y).duties (cell k h d j c) 0 = {0} := rfl
theorem duties_later (g : GSem nD τ sig) : ∀ r, 1 ≤ r → (Rd X Y).duties g r = ∅ := fun r hr => if_neg (by omega)
theorem amount_bar (e) : (Rd X Y).amount (barC c) 0 e = 1 := rfl
theorem amount_cell (e) : (Rd X Y).amount (cell k h d j c) 0 e = N := rfl
theorem payload_bar (e) : (Rd X Y).payload (barC c) 0 e = barPay e c := rfl
theorem payload_send (e) : (Rd X Y).payload (cell 0 h d j c) 0 e = sendPay X Y h d j c := by
  show (if kOf (sN 0 h d j) = 0 then _ else _) = _
  rw [kOf_sN, if_pos rfl, hOf_sN, dOf_sN, jOf_sN]
theorem payload_recv (e) : (Rd X Y).payload (cell 1 h d j c) 0 e = recvPay X Y h d j c := by
  show (if kOf (sN 1 h d j) = 0 then _ else _) = _
  rw [kOf_sN, if_neg (by decide), hOf_sN, dOf_sN, jOf_sN]
theorem expect_bar : (Rd X Y).expect (barC c) 0 = 2 := by
  unfold Schedule.expect Schedule.amountOf
  rw [duties_bar, Finset.sum_congr rfl fun e _ => amount_bar X Y c e]; rfl
theorem expect_cell : (Rd X Y).expect (cell k h d j c) 0 = N := by
  unfold Schedule.expect Schedule.amountOf
  rw [duties_cell, Finset.sum_singleton, amount_cell]
theorem rest_bar : bigSep ((Rd X Y).duties (barC c) 0 \ ∅) (fun e => (Rd X Y).payload (barC c) 0 e) = iprop(barPay 0 c ∗ barPay 1 c) := by
  rw [Finset.sdiff_empty, duties_bar, bigSep_univ_eq_bigSepL [0, 1] (by decide) (by decide)]; rfl
theorem rest_send : bigSep ((Rd X Y).duties (cell 0 h d j c) 0 \ ∅) (fun e => (Rd X Y).payload (cell 0 h d j c) 0 e) = sendPay X Y h d j c := by
  rw [Finset.sdiff_empty, duties_cell, bigSep_singleton, payload_send]
theorem rest_recv : bigSep ((Rd X Y).duties (cell 1 h d j c) 0 \ ∅) (fun e => (Rd X Y).payload (cell 1 h d j c) 0 e) = recvPay X Y h d j c := by
  rw [Finset.sdiff_empty, duties_cell, bigSep_singleton, payload_recv]

end Sched

/-! ## Stages of a strip -/

abbrev Strip : Type := Fin 2 × Fin 4

/-- The stage at which hop `h` leaves, arrives, and is known to have left. -/
def sendAt (h : Fin 6) : ℕ := ![0, 4, 7, 10, 12, 14] h
def recvAt (h : Fin 6) : ℕ := ![2, 5, 8, 11, 13, 15] h
def doneAt (h : Fin 6) : ℕ := 16 + h.val

/-- The state, at stage `n`, of hop `h`'s cell at the sender (0 ready, 1 sent, 2 closed) and at the receiver (0 open, 1 closed), -/
def cS (n : ℕ) (h : Fin 6) : ℕ := if n ≤ sendAt h then 0 else if n ≤ doneAt h then 1 else 2
def cR (n : ℕ) (h : Fin 6) : ℕ := if n ≤ recvAt h then 0 else 1
/-- of the strip's block in the rows of step `k` (0 given away, 1 the own product, 2 a partial sum, 3 the whole sum), -/
def cO (n : ℕ) (k : Fin 4) : ℕ :=
  ![if n = 0 then 1 else if n = 12 ∨ 21 ≤ n then 3 else 0,
    if n = 2 ∨ n = 3 then 1 else if n = 4 then 2 else if n = 14 ∨ 22 ≤ n then 3 else 0,
    if 2 ≤ n ∧ n ≤ 6 then 1 else if n = 7 then 2 else if 16 ≤ n then 3 else 0,
    if 2 ≤ n ∧ n ≤ 9 then 1 else if n = 10 ∨ 20 ≤ n then 3 else 0] k
/-- of the landing block of step `s` (1 arrived), of the neighbour's (1 held), -/
def cL (n : ℕ) (s : Fin 3) : ℕ := if n ≤ recvAt (hopR s) then 0 else 1
def cN (n : ℕ) (s : Fin 3) : ℕ := if n ≤ sendAt (hopR s) then 1 else 0
/-- and of what hop `h` will pass on (1 held). -/
def cB (n : ℕ) (h : Fin 6) : ℕ := if (h = 0 ∨ recvAt (h - 1) < n) ∧ n ≤ sendAt h then 1 else 0

section Slots
variable (d : Fin 2) (j : Fin 4) (c : Dev nD)

def Snd (h : Fin 6) : ℕ → sProp 𝕄
  | 0 => iprop((∃ κ : ℕ, cellInv ER (Rd X Y) κ (cell 0 h d j c)) ∗ (∃ κ : ℕ, cellInv ER (Rd X Y) κ (cell 1 h d j (nx d c)))
      ∗ dutyTok ER (cell 0 h d j c) 0 0 ∗ reached ER (cell 0 h d j c) 0
      ∗ dutyTok ER (cell 1 h d j (nx d c)) 0 0 ∗ reached ER (cell 1 h d j (nx d c)) 0 ∗ atPos ER (cell 0 h d j c) 0 ∅ 0)
  | 1 => iprop((∃ κ : ℕ, cellInv ER (Rd X Y) κ (cell 0 h d j c)) ∗ cred (tallyAt (cell 0 h d j c) () N) ∗ atPos ER (cell 0 h d j c) 0 ∅ 0)
  | _ => semVal (cell 0 h d j c) 0
def Rcv (h : Fin 6) : ℕ → sProp 𝕄
  | 0 => iprop((∃ κ : ℕ, cellInv ER (Rd X Y) κ (cell 1 h d j c)) ∗ cred (tallyAt (cell 1 h d j c) () N) ∗ atPos ER (cell 1 h d j c) 0 ∅ 0)
  | _ => semVal (cell 1 h d j c) 0
def Own (k : Fin 4) : ℕ → sProp 𝕄
  | 0 => iprop(emp)
  | 1 => oPt c (ch d k.val c) d j (prod X Y c)
  | 2 => oPt c (ch d k.val c) d j (acc X Y d k.val c)
  | _ => oPt c (ch d k.val c) d j (fin X Y)
def Land (s : Fin 3) : ℕ → sProp 𝕄
  | 0 => iprop(emp)
  | _ => kPt c s d j (landed X Y c)
def Nxt (s : Fin 3) : ℕ → sProp 𝕄
  | 0 => iprop(emp)
  | _ => kAny (nx d c) s d j
def Bun (h : Fin 6) : ℕ → sProp 𝕄
  | 0 => iprop(emp)
  | _ => bun d j c h.val

/-- What device `c` holds for strip `(d, j)` at stage `n`. -/
def St (n : ℕ) : sProp 𝕄 :=
  iprop((bigSep Finset.univ fun h => Snd X Y d j c h (cS n h)) ∗ (bigSep Finset.univ fun h => Rcv X Y d j c h (cR n h))
    ∗ (bigSep Finset.univ fun k => Own X Y d j c k (cO n k)) ∗ (bigSep Finset.univ fun s => Land X Y d j c s (cL n s))
    ∗ (bigSep Finset.univ fun s => Nxt (F := F) d j c s (cN n s)) ∗ (bigSep Finset.univ fun h => Bun (F := F) d j c h (cB n h)))

end Slots

/-! ## Debts and levels -/

/-- What device `c` owes at the stages `n`: the copies not yet sent. -/
def owed (c : Dev nD) (n : Strip → ℕ) : CellTallies nD τ sig Unit :=
  ∑ x : Strip × Fin 6, if n x.1 ≤ sendAt x.2 then tallyAt (cell 1 x.2 x.1.1 x.1.2 (nx x.1.1 c)) () N else 0

def L (g : GSem nD τ sig) : Finset Unit := if g.1.2 = .tc then {()} else ∅
def lv (g : GSem nD τ sig) (_ : Unit) : ℕ := match g.2 with
  | .reg _ => 1
  | .dma i => if 3 ≤ i.val ∧ kOf i = 1 then 2 + (hOf i).val else 0
theorem L_of_ne (g : GSem nD τ sig) (h : g.1.2 ≠ .tc) : L g = ∅ := if_neg h
theorem L_tc (c : Dev nD) (sm : SemLoc sig) : L ((c : Thread nD τ), sm) = {()} := if_pos rfl
theorem lv_recv (h d j c u) : lv (cell 1 h d j c) u = 2 + h.val := by
  show (if 3 ≤ (sN 1 h d j).val ∧ kOf (sN 1 h d j) = 1 then 2 + (hOf (sN 1 h d j)).val else 0) = _
  rw [kOf_sN, hOf_sN, if_pos ⟨three_le_sN _ _ _ _, rfl⟩]
theorem lv_send (h d j c u) : lv (cell 0 h d j c) u = 0 := by
  show (if 3 ≤ (sN 0 h d j).val ∧ kOf (sN 0 h d j) = 1 then 2 + (hOf (sN 0 h d j)).val else 0) = _
  rw [kOf_sN, if_neg (fun h => absurd h.2 (by decide))]

theorem owed_pos {c : Dev nD} {n : Strip → ℕ} {g : GSem nD τ sig} {u : Unit} (h : 0 < owed c n g u) :
    ∃ x : Strip × Fin 6, n x.1 ≤ sendAt x.2 ∧ g = cell 1 x.2 x.1.1 x.1.2 (nx x.1.1 c) := by
  by_contra hn
  refine absurd h (Nat.not_lt.2 (Nat.le_of_eq ?_))
  unfold owed
  rw [Finset.sum_apply, Finsupp.finset_sum_apply]
  refine Finset.sum_eq_zero fun x _ => ?_
  split
  · next hx => rw [tallyAt_apply, if_neg fun hg => hn ⟨x, hx, hg.1⟩]
  · rfl

/-- A wait at level `b` is allowed when every copy still owed is above it. -/
theorem mayWait (c : Dev nD) (sm : SemLoc sig) (n : Strip → ℕ)
    (hb : ∀ x : Strip × Fin 6, n x.1 ≤ sendAt x.2 → lv ((c : Thread nD τ), sm) () < 2 + x.2.val) :
    (levAts L lv : sProp 𝕄) ⊢ MayWait (c : Thread nD τ) sm () (owed c n) :=
  MayOwe.of_cut (L := L) (lev := lv) (lv ((c : Thread nD τ), sm) ())
    (fun p hp => by rw [Finset.mem_singleton.mp hp, L_tc]; exact Finset.mem_singleton_self _)
    (fun g u hg => by obtain ⟨x, -, rfl⟩ := owed_pos hg; exact Finset.mem_singleton_self _)
    (fun p hp => by rw [Finset.mem_singleton.mp hp])
    (fun g u hg => by obtain ⟨x, hx, rfl⟩ := owed_pos hg; rw [lv_recv]; exact hb x hx)

/-- One copy less is owed once it is sent, -/
theorem owed_send (c : Dev nD) (n : Strip → ℕ) (p : Strip) (h : Fin 6) (hp : n p = sendAt h) :
    owed c n = owed c (Function.update n p (n p + 1)) + tallyAt (cell 1 h p.1 p.2 (nx p.1 c)) () N := by
  have hs : ∀ h' : Fin 6, h' ≠ h → (sendAt h ≤ sendAt h' ↔ sendAt h + 1 ≤ sendAt h') := by clear hp; revert h; decide
  unfold owed
  rw [← Finset.sum_erase_add _ _ (Finset.mem_univ (p, h)), ← Finset.sum_erase_add (a := (p, h)) Finset.univ (fun x : Strip × Fin 6 =>
    if Function.update n p (n p + 1) x.1 ≤ sendAt x.2 then _ else 0) (Finset.mem_univ (p, h))]
  rw [if_pos (Nat.le_of_eq hp), if_neg (by show ¬ Function.update n p (n p + 1) p ≤ sendAt h; rw [Function.update_self, hp]; omega), add_zero]
  congr 1
  refine Finset.sum_congr rfl fun x hx => ?_
  by_cases hx1 : x.1 = p
  · have hx2 : x.2 ≠ h := fun e => (Finset.ne_of_mem_erase hx) (Prod.ext hx1 e)
    rw [hx1, Function.update_self, hp]
    exact if_congr (hs _ hx2) rfl rfl
  · rw [Function.update_of_ne hx1]
/-- and nothing changes at any other step. -/
theorem owed_keep (c : Dev nD) (n : Strip → ℕ) (p : Strip) (hp : ∀ h, n p ≠ sendAt h) :
    owed c (Function.update n p (n p + 1)) = owed c n := by
  unfold owed
  refine Finset.sum_congr rfl fun x _ => ?_
  by_cases hx1 : x.1 = p
  · rw [hx1, Function.update_self]
    exact if_congr (by have := hp x.2; omega) rfl rfl
  · rw [Function.update_of_ne hx1]

end Cert.KernelIdeal.Gen

end
-- ==== Proof.Steps.lean ====
module

public import proofs.«01_k».proof.Proof.Protocol

@[expose] public section

/-! # The steps of a strip

Each action takes its strip from one stage to the next. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x256 .f32) (Y : Dev nD → Vec F S256x1024 .f32)

abbrev 𝒱₀ : Variants := Variants.none

/-- The weakest precondition of a program on device `c`. -/
abbrev WP (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-! ## One slot of a family -/

omit [FloatOps F] in
theorem keep {ι : Type} [Fintype ι] (Φ : ι → ℕ → sProp 𝕄) {a b : ι → ℕ} (h : ∀ x, a x = b x) :
    (bigSep Finset.univ fun x => Φ x (a x)) ⊢ bigSep Finset.univ fun x => Φ x (b x) :=
  Entails.of_eq (bigSep_congr fun x _ => by rw [h x])
omit [FloatOps F] in
theorem upd {ι : Type} [Fintype ι] [DecidableEq ι] (Φ : ι → ℕ → sProp 𝕄) {a b : ι → ℕ} (i : ι) {va vb : ℕ}
    (ha : a i = va) (hb : b i = vb) (h : ∀ x, x ≠ i → a x = b x) :
    (bigSep Finset.univ fun x => Φ x (a x)) ⊢ iprop(Φ i va ∗ (Φ i vb -∗ bigSep Finset.univ fun x => Φ x (b x))) := by
  subst ha; subst hb
  have hr : bigSep (Finset.univ.erase i) (fun x => Φ x (a x)) = bigSep (Finset.univ.erase i) fun x => Φ x (b x) :=
    bigSep_congr fun x hx => by rw [h x (Finset.ne_of_mem_erase hx)]
  have ha : (bigSep Finset.univ fun x => Φ x (a x)) = iprop(Φ i (a i) ∗ bigSep (Finset.univ.erase i) fun x => Φ x (b x)) :=
    (bigSep_erase (Finset.mem_univ i)).trans (congrArg (BI.sep _) hr)
  have hb : (bigSep Finset.univ fun x => Φ x (b x)) = iprop(Φ i (b i) ∗ bigSep (Finset.univ.erase i) fun x => Φ x (b x)) :=
    bigSep_erase (Finset.mem_univ i)
  rw [ha, hb]
  iintro ⟨H1, H2⟩
  isplitl [H1]; · iexact H1
  iintro H3
  isplitl [H3] <;> iassumption

/-! ## All strips -/

/-- What device `c` holds when its strips are at the stages `n`. -/
def Gs (c : Dev nD) (n : Strip → ℕ) : sProp 𝕄 :=
  iprop((∃ W : Waits sig Unit, owes (c : Thread nD τ) (owed c n) W) ∗ bigSep Finset.univ fun p : Strip => St X Y p.1 p.2 c (n p))

/-- The stages after strip `p` took a step. -/
abbrev bump (n : Strip → ℕ) (p : Strip) : Strip → ℕ := Function.update n p (n p + 1)

theorem Gs_open (c : Dev nD) (n : Strip → ℕ) (d j) {m : ℕ} (hn : n (d, j) = m) :
    Gs X Y c n ⊢ iprop((∃ W : Waits sig Unit, owes (c : Thread nD τ) (owed c n) W) ∗ St X Y d j c m
      ∗ (((∃ W : Waits sig Unit, owes (c : Thread nD τ) (owed c (bump n (d, j))) W) ∗ St X Y d j c (m + 1)) -∗ Gs X Y c (bump n (d, j)))) := by
  subst hn
  unfold Gs
  iintro ⟨HO, HS⟩
  isplitl [HO]; · iexact HO
  ihave H := (upd (fun p : Strip => St X Y p.1 p.2 c) (a := n) (b := bump n (d, j)) (d, j) rfl (Function.update_self _ _ _)
    (fun x hx => (Function.update_of_ne hx _ _).symm)) $$ HS
  icases H with ⟨H1, H2⟩
  isplitl [H1]; · iexact H1
  iintro ⟨HO, HS⟩
  isplitl [HO]; · iexact HO
  iapply H2; iexact HS

/-! ## Waits -/

/-- A wait on a cell of the protocol gives the cell's payload and closes the cell. -/
theorem wp_cell_wait (c : Dev nD) (k h d j) (O : CellTallies nD τ sig Unit) (P : sProp 𝕄)
    (hP : bigSep ((Rd X Y).duties (cell k h d j c) 0 \ ∅) (fun e => (Rd X Y).payload (cell k h d j c) 0 e) = P)
    {sem : DmaSem sig} (hs : sem = sN k h d j) {sp sp' : Space} {s s' : Shape} {e e' : EltTy} {src : Memref sig .tc sp s e} {dst : Memref sig .tc sp' s' e'} (hN : dst.view.dmaCredit = N)
    {h1 : src.view.WordExact} {h2 : dst.view.WordExact} {K : Prog (TpuEff nD τ sig (Elt F) Λ₀ .tc) PUnit} {Q : PUnit → sProp 𝕄} :
    iprop((∃ κ : ℕ, cellInv ER (Rd X Y) κ (cell k h d j c)) ∗ cred (tallyAt (cell k h d j c) () N) ∗ atPos ER (cell k h d j c) 0 ∅ 0
        ∗ (∃ W : Waits sig Unit, owes (c : Thread nD τ) O W) ∗ MayWait (c : Thread nD τ) (.dma (sN k h d j)) () O
        ∗ ((semVal (cell k h d j c) 0 ∗ P ∗ ∃ W : Waits sig Unit, owes (c : Thread nD τ) O W) -∗ WP c K Q))
      ⊢ WP c (.op (.waitDma2 sem src dst h1 h2) fun _ => K) Q := by
  subst hs
  iintro ⟨⟨%κ, #HI⟩, Hc, Hat, ⟨%W, HO⟩, Hm, Hk⟩
  iapply (Rounds.wp_wait_rest_token 𝒱₀ ER (Rd X Y) (c : Thread nD τ) none (κ := κ)
      (wpE_waitDma2_eq 𝒱₀ (c : Thread nD τ) none Set.univ) (Set.mem_univ _) () (O := O) (W := W) (R := 0) (m := 0) (T := ∅)
      (by rw [Nat.zero_add, expect_cell, hN])) $$ [Hc HO Hat Hm]
  · isplitr; · iexact HI
    isplitl [Hc]; · rw [hN]; iexact Hc
    isplitl [HO]; · iexact HO
    isplitl [Hm] <;> iassumption
  iintro ⟨HO, Hat, -, Hpay⟩
  imod (Rounds.cell_close ER (Rd X Y) (Set.mem_univ κ) (fun h => h) (R := 0 + 1) (duties_later X Y (cell k h d j c))) $$ [Hat] with Hz
  · isplitr; · iexact HI
    iexact Hat
  iapply Hk
  isplitl [Hz]; · iexact Hz
  isplitl [Hpay]; · iapply (Entails.of_eq hP); iexact Hpay
  iexists _; iexact HO

/-! ## Sends -/

/-- One copy on equal offsets, devices and semaphores. -/
theorem rs_congr {off off' : Fin 2 → ℕ} {h h'} {dv dv' : Dev nD} {s d j} {a a' b b' : DmaSem sig} (ho : off = off') (hd : dv = dv') (ha : a = a') (hb : b = b')
    (k : PUnit → Prog (TpuEff nD τ sig (Elt F) Λ₀ .tc) PUnit) :
    (Prog.op (.enqueueDma (outB oM off h) (.remote (Dev.tc dv) (commB kM s d j) (.dma a)) (.dma b)
      (View.wordExact_bits rfl) ((View.wordExact_bits rfl).reshape _ _) ⟨⟨rfl, Or.inl rfl⟩, trivial⟩) k : Prog (TpuEff nD τ sig (Elt F) Λ₀ .tc) PUnit)
      = Prog.op (.enqueueDma (outB oM off' h') (.remote (Dev.tc dv') (commB kM s d j) (.dma a')) (.dma b')
      (View.wordExact_bits rfl) ((View.wordExact_bits rfl).reshape _ _) ⟨⟨rfl, Or.inl rfl⟩, trivial⟩) k := by
  subst ho hd ha hb; rfl
theorem ag_congr {off off' : Fin 2 → ℕ} {h h'} {dv dv' : Dev nD} {a a' b b' : DmaSem sig} (ho : off = off') (hd : dv = dv') (ha : a = a') (hb : b = b')
    (k : PUnit → Prog (TpuEff nD τ sig (Elt F) Λ₀ .tc) PUnit) :
    (Prog.op (.enqueueDma (outB oM off h) (.remote (Dev.tc dv) (outB oM off h) (.dma a)) (.dma b)
      (View.wordExact_bits rfl) (View.wordExact_bits rfl) ⟨⟨rfl, Or.inl rfl⟩, trivial⟩) k : Prog (TpuEff nD τ sig (Elt F) Λ₀ .tc) PUnit)
      = Prog.op (.enqueueDma (outB oM off' h') (.remote (Dev.tc dv') (outB oM off' h') (.dma a')) (.dma b')
      (View.wordExact_bits rfl) (View.wordExact_bits rfl) ⟨⟨rfl, Or.inl rfl⟩, trivial⟩) k := by
  subst ho hd ha hb; rfl

theorem oPt_eq (c k d j) (f : Vec F S1024x1024 .f32) :
    (oPt c k d j f : sProp 𝕄) = ((oB k d j).view.loc (c : Thread nD τ) ↦[(oB k d j).view.set]{fullShare} f) := by rw [oB_set]; rfl
theorem kPt_eq (c s d j) (f : Vec F S3x256x1024 .f32) :
    (kPt c s d j f : sProp 𝕄) = ((kB s d j).view.loc (c : Thread nD τ) ↦[(kB s d j).view.set]{fullShare} f) := by rw [kB_set]; rfl

/-- What the receiver gets of a reduce-scatter's copy, -/
theorem pay_rs (c : Dev nD) (s : Fin 3) (d j) (f : Vec F S3x256x1024 .f32) :
    iprop((((kB s d j).view.loc (nx d c : Thread nD τ) ↦[(kB s d j).view.set]{fullShare}
        (kB s d j).view.write (Elt F) f ((oB (ch d s.val c) d j).view.read (Elt F) (acc X Y d s.val c)) Finset.univ) ∗ bun d j c s.val)
        ∗ ((oB (ch d s.val c) d j).view.loc (c : Thread nD τ) ↦[(oB (ch d s.val c) d j).view.set]{fullShare} (acc X Y d s.val c)))
      ⊢ recvPay X Y (hopR s) d j (nx d c) := by
  have e1 := (kPt_eq (nx d c) s d j ((kB s d j).view.write (Elt F) f ((oB (ch d s.val c) d j).view.read (Elt F) (acc X Y d s.val c)) Finset.univ)).symm.trans
    (kPt_congr (landed_of_send X Y c s d j f))
  have e2 := oPt_eq c (ch d s.val c) d j (acc X Y d s.val c)
  rw [e1, ← e2]
  have e3 : dat X Y (hopR s) d j (nx d c) = kPt (nx d c) s d j (landed X Y (nx d c)) := dif_pos (show (hopR s).val < 3 from s.isLt)
  unfold recvPay
  rw [e3]
  iintro ⟨⟨H1, H2⟩, H3⟩
  isplitl [H1]; · iexact H1
  iapply (bun_rs d j c s)
  isplitl [H3]
  · unfold oAny; iexists _; iexact H3
  iexact H2
/-- and of an all-gather's. -/
theorem pay_ag (c : Dev nD) (s : Fin 3) (d j) (f : Vec F S1024x1024 .f32) :
    iprop(((oB (ch d (s.val + 3) c) d j).view.loc (nx d c : Thread nD τ) ↦[(oB (ch d (s.val + 3) c) d j).view.set]{fullShare}
        (oB (ch d (s.val + 3) c) d j).view.write (Elt F) f ((oB (ch d (s.val + 3) c) d j).view.read (Elt F) (fin X Y)) Finset.univ) ∗ bun d j (nx d c) (s.val + 4))
      ⊢ recvPay X Y (hopA s) d j (nx d c) := by
  have e1 := (oPt_eq (nx d c) (ch d (s.val + 3) c) d j ((oB (ch d (s.val + 3) c) d j).view.write (Elt F) f ((oB (ch d (s.val + 3) c) d j).view.read (Elt F) (fin X Y)) Finset.univ)).symm.trans
    (oPt_congr (fin_of_send X Y (ch d (s.val + 3) c) d j f))
  rw [e1]
  have hv : (hopA s).val = s.val + 3 := Nat.add_comm 3 s.val
  have e3 : dat X Y (hopA s) d j (nx d c) = oPt (nx d c) (ch d (s.val + 3) c) d j (fin X Y) := by
    unfold dat
    rw [dif_neg (show ¬ (hopA s).val < 3 by omega), hv, show s.val + 3 - 3 = s.val from rfl, ch_nx d s c]
  unfold recvPay
  rw [e3, hv]

/-- The rule of a reduce-scatter's copy at the protocol's cells, from the block holding the partial sum: what the
    arrival before brought goes on with it. -/
theorem send_rs (c : Dev nD) (s : Fin 3) (d j) (O₀ O : CellTallies nD τ sig Unit)
    (hO : O₀ = O + tallyAt (cell 1 (hopR s) d j (nx d c)) () N) (κ₁ κ₂ : ℕ) (f : Buf (Elt F) ((kB s d j).view.loc (nx d c : Thread nD τ))) (W : Waits sig Unit)
    (k : PUnit → Prog (TpuEff nD τ sig (Elt F) Λ₀ .tc) PUnit) {Q : PUnit → sProp 𝕄} :
    iprop(cellInv ER (Rd X Y) κ₁ (cell 0 (hopR s) d j c) ∗ cellInv ER (Rd X Y) κ₂ (cell 1 (hopR s) d j (nx d c))
        ∗ ((oB (ch d s.val c) d j).view.loc (c : Thread nD τ) ↦[(oB (ch d s.val c) d j).view.set]{fullShare} (acc X Y d s.val c))
        ∗ (((kB s d j).view.loc (nx d c : Thread nD τ) ↦[(kB s d j).view.set]{fullShare} f) ∗ bun d j c s.val)
        ∗ owes (c : Thread nD τ) O₀ W
        ∗ dutyTok ER (cell 0 (hopR s) d j c) 0 0 ∗ reached ER (cell 0 (hopR s) d j c) 0
        ∗ dutyTok ER (cell 1 (hopR s) d j (nx d c)) 0 0 ∗ reached ER (cell 1 (hopR s) d j (nx d c)) 0)
      ⊢ iprop(((cred (tallyAt (cell 0 (hopR s) d j c) () N) ∗ owes (c : Thread nD τ) O W) -∗ WP c (k ⟨⟩) Q)
      -∗ WP c (Prog.op (.enqueueDma (oB (ch d s.val c) d j) (.remote (Dev.tc (nx d c)) (kB s d j) (.dma (sN 0 (hopR s) d j))) (.dma (sN 1 (hopR s) d j))
      (View.wordExact_bits rfl) ((View.wordExact_bits rfl).reshape _ _) ⟨⟨rfl, Or.inl rfl⟩, trivial⟩) k) Q) :=
  Rounds.wp_send_landing_pointsTo_with 𝒱₀ ER (Rd X Y) (c : Thread nD τ) none (κ₁ := κ₁) (κ₂ := κ₂)
    (r₁ := 0) (r₂ := 0) (d₁ := (0 : Fin 2)) (d₂ := (0 : Fin 2)) (fd := f) (F := bun d j c s.val)
    (by rw [duties_cell]; exact Finset.mem_singleton_self _) (by rw [duties_cell]; exact Finset.mem_singleton_self _)
    () () N rfl (amount_cell X Y 0 (hopR s) d j c 0) (amount_cell X Y 1 (hopR s) d j (nx d c) 0) O hO (W := W)
    (by rw [payload_send]; unfold sendPay; rw [if_pos (show (hopR s).val < 3 from s.isLt)])
    (by rw [payload_recv]; exact pay_rs X Y c s d j f)

/-- The rule of an all-gather's copy, from the block holding the whole sum into the same block of the neighbour. -/
theorem send_ag (c : Dev nD) (s : Fin 3) (d j) (O₀ O : CellTallies nD τ sig Unit)
    (hO : O₀ = O + tallyAt (cell 1 (hopA s) d j (nx d c)) () N) (κ₁ κ₂ : ℕ) (f : Buf (Elt F) ((oB (ch d (s.val + 3) c) d j).view.loc (nx d c : Thread nD τ))) (W : Waits sig Unit)
    (k : PUnit → Prog (TpuEff nD τ sig (Elt F) Λ₀ .tc) PUnit) {Q : PUnit → sProp 𝕄} :
    iprop(cellInv ER (Rd X Y) κ₁ (cell 0 (hopA s) d j c) ∗ cellInv ER (Rd X Y) κ₂ (cell 1 (hopA s) d j (nx d c))
        ∗ ((oB (ch d (s.val + 3) c) d j).view.loc (c : Thread nD τ) ↦[(oB (ch d (s.val + 3) c) d j).view.set]{fullShare} (fin X Y))
        ∗ (((oB (ch d (s.val + 3) c) d j).view.loc (nx d c : Thread nD τ) ↦[(oB (ch d (s.val + 3) c) d j).view.set]{fullShare} f) ∗ bun d j (nx d c) (s.val + 4))
        ∗ owes (c : Thread nD τ) O₀ W
        ∗ dutyTok ER (cell 0 (hopA s) d j c) 0 0 ∗ reached ER (cell 0 (hopA s) d j c) 0
        ∗ dutyTok ER (cell 1 (hopA s) d j (nx d c)) 0 0 ∗ reached ER (cell 1 (hopA s) d j (nx d c)) 0)
      ⊢ iprop(((cred (tallyAt (cell 0 (hopA s) d j c) () N) ∗ owes (c : Thread nD τ) O W) -∗ WP c (k ⟨⟩) Q)
      -∗ WP c (Prog.op (.enqueueDma (oB (ch d (s.val + 3) c) d j) (.remote (Dev.tc (nx d c)) (oB (ch d (s.val + 3) c) d j) (.dma (sN 0 (hopA s) d j))) (.dma (sN 1 (hopA s) d j))
      (View.wordExact_bits rfl) (View.wordExact_bits rfl) ⟨⟨rfl, Or.inl rfl⟩, trivial⟩) k) Q) :=
  have hlt : ¬ (hopA s).val < 3 := Nat.not_lt.2 (Nat.le_add_right 3 s.val)
  have hv : (hopA s).val = s.val + 3 := Nat.add_comm 3 s.val
  Rounds.wp_send_pointsTo_with 𝒱₀ ER (Rd X Y) (c : Thread nD τ) none (κ₁ := κ₁) (κ₂ := κ₂)
    (r₁ := 0) (r₂ := 0) (d₁ := (0 : Fin 2)) (d₂ := (0 : Fin 2)) (fd := f) (F := bun d j (nx d c) (s.val + 4))
    (by rw [duties_cell]; exact Finset.mem_singleton_self _) (by rw [duties_cell]; exact Finset.mem_singleton_self _)
    () () N rfl (amount_cell X Y 0 (hopA s) d j c 0) (amount_cell X Y 1 (hopA s) d j (nx d c) 0) O hO (W := W)
    (by
      rw [payload_send]; unfold sendPay; rw [if_neg hlt, hv]
      exact Entails.of_eq (oPt_eq c (ch d (s.val + 3) c) d j (fin X Y)).symm)
    (by rw [payload_recv]; exact pay_ag X Y c s d j f)

/-- A copy of the reduce-scatter, from the block holding the partial sum. -/
theorem wp_rs (c : Dev nD) (s : Fin 3) (d j) (O₀ O : CellTallies nD τ sig Unit)
    (hO : O₀ = O + tallyAt (cell 1 (hopR s) d j (nx d c)) () N)
    (k : PUnit → Prog (TpuEff nD τ sig (Elt F) Λ₀ .tc) PUnit) {Q : PUnit → sProp 𝕄} :
    iprop(Snd X Y d j c (hopR s) 0 ∗ oPt c (ch d s.val c) d j (acc X Y d s.val c) ∗ Nxt d j c s 1 ∗ bun d j c s.val
        ∗ (∃ W : Waits sig Unit, owes (c : Thread nD τ) O₀ W)
        ∗ ((Snd X Y d j c (hopR s) 1 ∗ ∃ W : Waits sig Unit, owes (c : Thread nD τ) O W) -∗ WP c (k ⟨⟩) Q))
      ⊢ WP c (Prog.op (.enqueueDma (oB (ch d s.val c) d j) (.remote (Dev.tc (nx d c)) (kB s d j) (.dma (sN 0 (hopR s) d j))) (.dma (sN 1 (hopR s) d j))
      (View.wordExact_bits rfl) ((View.wordExact_bits rfl).reshape _ _) ⟨⟨rfl, Or.inl rfl⟩, trivial⟩) k) Q := by
  simp only [Snd, Nxt, kAny]
  iintro ⟨⟨⟨%κ₁, #HI1⟩, ⟨%κ₂, #HI2⟩, Ht1, #Hr1, Ht2, #Hr2, Hat⟩, Ho, ⟨%f, Hn⟩, Hb, ⟨%W, HO⟩, Hk⟩
  ihave Ho := (Entails.of_eq (oPt_eq c _ d j _)) $$ Ho
  ihave Hn := (Entails.of_eq (kPt_eq (nx d c) s d j f)) $$ Hn
  iapply (send_rs X Y c s d j O₀ O hO κ₁ κ₂ f W k) $$ [Ho Hn Hb HO Ht1 Ht2]
  · isplitr; · iexact HI1
    isplitr; · iexact HI2
    isplitl [Ho]; · iexact Ho
    isplitl [Hn Hb]
    · isplitl [Hn] <;> iassumption
    isplitl [HO]; · iexact HO
    isplitl [Ht1]; · iexact Ht1
    isplitr; · iexact Hr1
    isplitl [Ht2]; · iexact Ht2
    iexact Hr2
  iintro ⟨Hc, HO⟩
  iapply Hk
  isplitl [Hc Hat]
  · isplitr; · iexists _; iexact HI1
    isplitl [Hc] <;> iassumption
  iexists _; iexact HO

/-- A copy of the all-gather, from the block holding the whole sum. -/
theorem wp_ag (c : Dev nD) (s : Fin 3) (d j) (O₀ O : CellTallies nD τ sig Unit)
    (hO : O₀ = O + tallyAt (cell 1 (hopA s) d j (nx d c)) () N)
    (k : PUnit → Prog (TpuEff nD τ sig (Elt F) Λ₀ .tc) PUnit) {Q : PUnit → sProp 𝕄} :
    iprop(Snd X Y d j c (hopA s) 0 ∗ oPt c (ch d (s.val + 3) c) d j (fin X Y) ∗ bun d j c (s.val + 3)
        ∗ (∃ W : Waits sig Unit, owes (c : Thread nD τ) O₀ W)
        ∗ ((Snd X Y d j c (hopA s) 1 ∗ ∃ W : Waits sig Unit, owes (c : Thread nD τ) O W) -∗ WP c (k ⟨⟩) Q))
      ⊢ WP c (Prog.op (.enqueueDma (oB (ch d (s.val + 3) c) d j) (.remote (Dev.tc (nx d c)) (oB (ch d (s.val + 3) c) d j) (.dma (sN 0 (hopA s) d j))) (.dma (sN 1 (hopA s) d j))
      (View.wordExact_bits rfl) (View.wordExact_bits rfl) ⟨⟨rfl, Or.inl rfl⟩, trivial⟩) k) Q := by
  have hchn := ch_nx d s c
  simp only [Snd]
  iintro ⟨⟨⟨%κ₁, #HI1⟩, ⟨%κ₂, #HI2⟩, Ht1, #Hr1, Ht2, #Hr2, Hat⟩, Ho, Hb, ⟨%W, HO⟩, Hk⟩
  ihave Hb' := (bun_ag d j c s) $$ Hb
  rw [hchn]
  unfold oAny
  icases Hb' with ⟨⟨%f, Hn⟩, Hb⟩
  ihave Ho := (Entails.of_eq (oPt_eq c _ d j _)) $$ Ho
  ihave Hn := (Entails.of_eq (oPt_eq (nx d c) _ d j f)) $$ Hn
  iapply (send_ag X Y c s d j O₀ O hO κ₁ κ₂ f W k) $$ [Ho Hn Hb HO Ht1 Ht2]
  · isplitr; · iexact HI1
    isplitr; · iexact HI2
    isplitl [Ho]; · iexact Ho
    isplitl [Hn Hb]
    · isplitl [Hn] <;> iassumption
    isplitl [HO]; · iexact HO
    isplitl [Ht1]; · iexact Ht1
    isplitr; · iexact Hr1
    isplitl [Ht2]; · iexact Ht2
    iexact Hr2
  iintro ⟨Hc, HO⟩
  iapply Hk
  isplitl [Hc Hat]
  · isplitr; · iexists _; iexact HI1
    isplitl [Hc] <;> iassumption
  iexists _; iexact HO

end Cert.KernelIdeal.Gen

end
-- ==== Proof.Acts.lean ====
module

public import proofs.«01_k».proof.Proof.Steps

@[expose] public section

/-! # The actions

The program of each action, from the stage at which its strip takes it to the next. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x256 .f32) (Y : Dev nD → Vec F S256x1024 .f32)

/-! ## The stages, slot by slot -/

/-- The stage at which what arrived at step `s` is added. -/
def accAt (s : Fin 3) : ℕ := 3 * s.val + 3

theorem cS_send : ∀ h, cS (sendAt h) h = 0 ∧ cS (sendAt h + 1) h = 1 ∧ ∀ x, x ≠ h → cS (sendAt h) x = cS (sendAt h + 1) x := by decide
theorem cS_recv : ∀ h x, cS (recvAt h) x = cS (recvAt h + 1) x := by decide
theorem cS_acc : ∀ s x, cS (accAt s) x = cS (accAt s + 1) x := by decide
theorem cS_done : ∀ h, cS (doneAt h) h = 1 ∧ cS (doneAt h + 1) h = 2 ∧ ∀ x, x ≠ h → cS (doneAt h) x = cS (doneAt h + 1) x := by decide
theorem cR_send : ∀ h x, cR (sendAt h) x = cR (sendAt h + 1) x := by decide
theorem cR_recv : ∀ h, cR (recvAt h) h = 0 ∧ cR (recvAt h + 1) h = 1 ∧ ∀ x, x ≠ h → cR (recvAt h) x = cR (recvAt h + 1) x := by decide
theorem cR_acc : ∀ s x, cR (accAt s) x = cR (accAt s + 1) x := by decide
theorem cR_done : ∀ h x, cR (doneAt h) x = cR (doneAt h + 1) x := by decide
theorem cO_rs : ∀ s : Fin 3, cO (sendAt (hopR s)) s.castSucc = (if s = 0 then 1 else 2) ∧ cO (sendAt (hopR s) + 1) s.castSucc = 0
    ∧ ∀ x, x ≠ s.castSucc → cO (sendAt (hopR s)) x = cO (sendAt (hopR s) + 1) x := by decide
/-- The block the all-gather's copy of step `s` is read from. -/
def agK (s : Fin 3) : Fin 4 := ⟨(s.val + 3) % 4, Nat.mod_lt _ (by decide)⟩
theorem ch_agK : ∀ d s c, ch d (agK s).val c = ch d (s.val + 3) c := by decide
theorem cO_ag : ∀ s : Fin 3, cO (sendAt (hopA s)) (agK s) = 3 ∧ cO (sendAt (hopA s) + 1) (agK s) = 0
    ∧ ∀ x, x ≠ agK s → cO (sendAt (hopA s)) x = cO (sendAt (hopA s) + 1) x := by decide
theorem cO_gotR : ∀ (s : Fin 3) x, cO (recvAt (hopR s)) x = cO (recvAt (hopR s) + 1) x := by decide
theorem cO_gotA : ∀ s : Fin 3, cO (recvAt (hopA s)) s.castSucc = 0 ∧ cO (recvAt (hopA s) + 1) s.castSucc = 3
    ∧ ∀ x, x ≠ s.castSucc → cO (recvAt (hopA s)) x = cO (recvAt (hopA s) + 1) x := by decide
theorem cO_acc : ∀ s : Fin 3, cO (accAt s) s.succ = 1 ∧ cO (accAt s + 1) s.succ = (if s = 2 then 3 else 2)
    ∧ ∀ x, x ≠ s.succ → cO (accAt s) x = cO (accAt s + 1) x := by decide
theorem cO_doneR : ∀ (s : Fin 3) x, cO (doneAt (hopR s)) x = cO (doneAt (hopR s) + 1) x := by decide
theorem cO_doneA : ∀ s : Fin 3, cO (doneAt (hopA s)) (agK s) = 0 ∧ cO (doneAt (hopA s) + 1) (agK s) = 3
    ∧ ∀ x, x ≠ agK s → cO (doneAt (hopA s)) x = cO (doneAt (hopA s) + 1) x := by decide
theorem cL_send : ∀ h x, cL (sendAt h) x = cL (sendAt h + 1) x := by decide
theorem cL_gotR : ∀ s : Fin 3, cL (recvAt (hopR s)) s = 0 ∧ cL (recvAt (hopR s) + 1) s = 1 ∧ ∀ x, x ≠ s → cL (recvAt (hopR s)) x = cL (recvAt (hopR s) + 1) x := by decide
theorem cL_gotA : ∀ (s : Fin 3) x, cL (recvAt (hopA s)) x = cL (recvAt (hopA s) + 1) x := by decide
theorem cL_acc : ∀ s : Fin 3, cL (accAt s) s = 1 ∧ cL (accAt s + 1) s = 1 ∧ ∀ x, x ≠ s → cL (accAt s) x = cL (accAt s + 1) x := by decide
theorem cL_done : ∀ h x, cL (doneAt h) x = cL (doneAt h + 1) x := by decide
theorem cN_rs : ∀ s : Fin 3, cN (sendAt (hopR s)) s = 1 ∧ cN (sendAt (hopR s) + 1) s = 0 ∧ ∀ x, x ≠ s → cN (sendAt (hopR s)) x = cN (sendAt (hopR s) + 1) x := by decide
theorem cN_ag : ∀ (s : Fin 3) x, cN (sendAt (hopA s)) x = cN (sendAt (hopA s) + 1) x := by decide
theorem cN_recv : ∀ h x, cN (recvAt h) x = cN (recvAt h + 1) x := by decide
theorem cN_acc : ∀ s x, cN (accAt s) x = cN (accAt s + 1) x := by decide
theorem cN_done : ∀ h x, cN (doneAt h) x = cN (doneAt h + 1) x := by decide
theorem cB_send : ∀ h, cB (sendAt h) h = 1 ∧ cB (sendAt h + 1) h = 0 ∧ ∀ x, x ≠ h → cB (sendAt h) x = cB (sendAt h + 1) x := by decide
theorem cB_recv : ∀ h : Fin 6, h ≠ 5 → cB (recvAt h) (h + 1) = 0 ∧ cB (recvAt h + 1) (h + 1) = 1
    ∧ ∀ x, x ≠ h + 1 → cB (recvAt h) x = cB (recvAt h + 1) x := by decide
theorem cB_last : ∀ x, cB (recvAt 5) x = cB (recvAt 5 + 1) x := by decide
theorem cB_acc : ∀ s x, cB (accAt s) x = cB (accAt s + 1) x := by decide
theorem cB_done : ∀ h x, cB (doneAt h) x = cB (doneAt h + 1) x := by decide
theorem not_send_recv : ∀ h h', recvAt h ≠ sendAt h' := by decide
theorem not_send_acc : ∀ s h', accAt s ≠ sendAt h' := by decide
theorem not_send_done : ∀ h h', doneAt h ≠ sendAt h' := by decide

/-- What an arrival brings is kept for the next copy. -/
theorem bun_got (d j c) (h : Fin 6) : iprop((bigSep Finset.univ fun x => Bun (F := F) d j c x (cB (recvAt h) x)) ∗ bun d j c (h.val + 1))
    ⊢ bigSep Finset.univ fun x => Bun (F := F) d j c x (cB (recvAt h + 1) x) := by
  by_cases hh : h = 5
  · subst hh
    iintro ⟨H, -⟩
    iapply (keep (Bun d j c) cB_last); iexact H
  · have hv : (h + 1).val = h.val + 1 := by revert h; decide
    obtain ⟨h1, h2, h3⟩ := cB_recv h hh
    iintro ⟨H, Hb⟩
    ihave H := (upd (Bun d j c) (h + 1) h1 h2 h3) $$ H
    icases H with ⟨-, H⟩
    iapply H
    simp only [Bun]; rw [hv]; iexact Hb

theorem own_rs (d j c) (s : Fin 3) : Own X Y d j c s.castSucc (if s = 0 then 1 else 2) ⊢ oPt c (ch d s.val c) d j (acc X Y d s.val c) := by
  by_cases hs : s = 0
  · subst hs; rw [if_pos rfl]; exact Entails.refl _
  · rw [if_neg hs]; exact Entails.refl _
theorem own_acc (d j c) (s : Fin 3) : oPt c (ch d (s.val + 1) c) d j (acc X Y d (s.val + 1) c) ⊢ Own X Y d j c s.succ (if s = 2 then 3 else 2) := by
  by_cases hs : s = 2
  · subst hs; rw [if_pos rfl]; exact Entails.of_eq (oPt_congr (acc_fin X Y c d j))
  · rw [if_neg hs]; exact Entails.refl _

theorem outB_credit (off h) : (outB oM off h).view.dmaCredit = N := rfl

/-! ## The actions -/

/-- The program of an action over the kernel's own buffers, and then a program. -/
abbrev step (c : Dev nD) (a : Act) (K : Prog (TpuEff nD τ sig (Elt F) Λ₀ .tc) PUnit) : Prog (TpuEff nD τ sig (Elt F) Λ₀ .tc) PUnit :=
  a.run oM kM cc0_scratch1 cc0_scratch2 cc0_scratch3 cc0_scratch4 c >>= fun _ => K

section
variable (c : Dev nD) (s : Fin 3) (d : Fin 2) (j : Fin 4) (n : Strip → ℕ) (K : Prog (TpuEff nD τ sig (Elt F) Λ₀ .tc) PUnit)

theorem step_rs {Q : PUnit → sProp 𝕄} (hn : n (d, j) = sendAt (hopR s)) :
    iprop(Gs X Y c n ∗ (Gs X Y c (bump n (d, j)) -∗ WP c K Q)) ⊢ WP c (step c (.rs s d j) K) Q := by
  unfold step Act.run; simp only [Prog.lift, Prog.bind_op, Prog.bind_ret]
  rw [rs_congr (off' := offP (ch d s.val c) d j) (h' := strip_inb d j (ch d s.val c).isLt) (rsOff_eq s d j c) (devAt_eq _ d j c) (semAt_1 s d j) (semAt_2 s d j) fun _ => K]
  refine BIBase.Entails.trans ?_ (wp_rs X Y c s d j (owed c n) (owed c (bump n (d, j))) (owed_send c n (d, j) (hopR s) hn) _)
  iintro ⟨HG, Hk⟩
  ihave H := (Gs_open X Y c n d j hn) $$ HG
  icases H with ⟨HO, HS, Hback⟩
  unfold St
  icases HS with ⟨HS, HR, HW, HL, HN, HB⟩
  ihave HS := (upd (Snd X Y d j c) (hopR s) (cS_send (hopR s)).1 (cS_send (hopR s)).2.1 (cS_send (hopR s)).2.2) $$ HS
  icases HS with ⟨HS, HSb⟩
  ihave HW := (upd (Own X Y d j c) s.castSucc (cO_rs s).1 (cO_rs s).2.1 (cO_rs s).2.2) $$ HW
  icases HW with ⟨HW, HWb⟩
  ihave HW := (own_rs X Y d j c s) $$ HW
  ihave HN := (upd (Nxt d j c) s (cN_rs s).1 (cN_rs s).2.1 (cN_rs s).2.2) $$ HN
  icases HN with ⟨HN, HNb⟩
  ihave HB := (upd (Bun d j c) (hopR s) (cB_send (hopR s)).1 (cB_send (hopR s)).2.1 (cB_send (hopR s)).2.2) $$ HB
  icases HB with ⟨HB, HBb⟩
  isplitl [HS]; · iexact HS
  isplitl [HW]; · iexact HW
  isplitl [HN]; · iexact HN
  isplitl [HB]; · simp only [Bun]; iexact HB
  isplitl [HO]; · iexact HO
  iintro ⟨HS, HO⟩
  iapply Hk
  iapply Hback
  isplitl [HO]; · iexact HO
  isplitl [HS HSb]; · iapply HSb; iexact HS
  isplitl [HR]; · iapply (keep (Rcv X Y d j c) (cR_send (hopR s))); iexact HR
  isplitl [HWb]; · iapply HWb; simp only [Own]; iempintro
  isplitl [HL]; · iapply (keep (Land X Y d j c) (cL_send (hopR s))); iexact HL
  isplitl [HNb]; · iapply HNb; simp only [Nxt]; iempintro
  iapply HBb; simp only [Bun]; iempintro

theorem step_ag {Q : PUnit → sProp 𝕄} (hn : n (d, j) = sendAt (hopA s)) :
    iprop(Gs X Y c n ∗ (Gs X Y c (bump n (d, j)) -∗ WP c K Q)) ⊢ WP c (step c (.ag s d j) K) Q := by
  have hv : (hopA s).val = s.val + 3 := Nat.add_comm 3 s.val
  unfold step Act.run; simp only [Prog.lift, Prog.bind_op, Prog.bind_ret]
  rw [ag_congr (off' := offP (ch d (s.val + 3) c) d j) (h' := strip_inb d j (ch d (s.val + 3) c).isLt) (agOff_eq s d j c) (devAt_eq _ d j c) (semAt_3 s d j) (semAt_4 s d j) fun _ => K]
  refine BIBase.Entails.trans ?_ (wp_ag X Y c s d j (owed c n) (owed c (bump n (d, j))) (owed_send c n (d, j) (hopA s) hn) _)
  iintro ⟨HG, Hk⟩
  ihave H := (Gs_open X Y c n d j hn) $$ HG
  icases H with ⟨HO, HS, Hback⟩
  unfold St
  icases HS with ⟨HS, HR, HW, HL, HN, HB⟩
  ihave HS := (upd (Snd X Y d j c) (hopA s) (cS_send (hopA s)).1 (cS_send (hopA s)).2.1 (cS_send (hopA s)).2.2) $$ HS
  icases HS with ⟨HS, HSb⟩
  ihave HW := (upd (Own X Y d j c) (agK s) (cO_ag s).1 (cO_ag s).2.1 (cO_ag s).2.2) $$ HW
  icases HW with ⟨HW, HWb⟩
  ihave HB := (upd (Bun d j c) (hopA s) (cB_send (hopA s)).1 (cB_send (hopA s)).2.1 (cB_send (hopA s)).2.2) $$ HB
  icases HB with ⟨HB, HBb⟩
  isplitl [HS]; · iexact HS
  isplitl [HW]; · simp only [Own]; rw [ch_agK]; iexact HW
  isplitl [HB]; · simp only [Bun]; rw [hv]; iexact HB
  isplitl [HO]; · iexact HO
  iintro ⟨HS, HO⟩
  iapply Hk
  iapply Hback
  isplitl [HO]; · iexact HO
  isplitl [HS HSb]; · iapply HSb; iexact HS
  isplitl [HR]; · iapply (keep (Rcv X Y d j c) (cR_send (hopA s))); iexact HR
  isplitl [HWb]; · iapply HWb; simp only [Own]; iempintro
  isplitl [HL]; · iapply (keep (Land X Y d j c) (cL_send (hopA s))); iexact HL
  isplitl [HN]; · iapply (keep (Nxt d j c) (cN_ag s)); iexact HN
  iapply HBb; simp only [Bun]; iempintro

theorem step_gotR {Q : PUnit → sProp 𝕄} (hn : n (d, j) = recvAt (hopR s)) (hb : ∀ x : Strip × Fin 6, n x.1 ≤ sendAt x.2 → hopR s < x.2) :
    iprop(levAts L lv ∗ Gs X Y c n ∗ (Gs X Y c (bump n (d, j)) -∗ WP c K Q)) ⊢ WP c (step c (.gotR s d j) K) Q := by
  unfold step Act.run; simp only [Prog.lift, Prog.bind_op, Prog.bind_ret]
  refine BIBase.Entails.trans ?_ (wp_cell_wait X Y c 1 (hopR s) d j (owed c n) _ (rest_recv X Y (hopR s) d j c) (semAt_2 s d j) (kB_credit s d j))
  iintro ⟨Hlev, HG, Hk⟩
  ihave H := (Gs_open X Y c n d j hn) $$ HG
  icases H with ⟨HO, HS, Hback⟩
  unfold St
  icases HS with ⟨HS, HR, HW, HL, HN, HB⟩
  ihave HR := (upd (Rcv X Y d j c) (hopR s) (cR_recv (hopR s)).1 (cR_recv (hopR s)).2.1 (cR_recv (hopR s)).2.2) $$ HR
  icases HR with ⟨HR, HRb⟩
  ihave HL := (upd (Land X Y d j c) s (cL_gotR s).1 (cL_gotR s).2.1 (cL_gotR s).2.2) $$ HL
  icases HL with ⟨-, HLb⟩
  simp only [Rcv]
  icases HR with ⟨HI, Hc, Hat⟩
  isplitl [HI]; · iexact HI
  isplitl [Hc]; · iexact Hc
  isplitl [Hat]; · iexact Hat
  isplitl [HO]; · iexact HO
  isplitl [Hlev]
  · iapply (mayWait c _ n (fun x hx => by rw [lv_recv]; have := hb x hx; exact Nat.add_lt_add_left this 2)); iexact Hlev
  iintro ⟨Hz, HP, HO⟩
  unfold recvPay dat
  rw [dif_pos (show (hopR s).val < 3 from s.isLt)]
  icases HP with ⟨HP, HE⟩
  iapply Hk
  iapply Hback
  rw [owed_keep c n (d, j) (fun h => hn ▸ not_send_recv _ h)]
  isplitl [HO]; · iexact HO
  isplitl [HS]; · iapply (keep (Snd X Y d j c) (cS_recv (hopR s))); iexact HS
  isplitl [Hz HRb]; · iapply HRb; iexact Hz
  isplitl [HW]; · iapply (keep (Own X Y d j c) (cO_gotR s)); iexact HW
  isplitl [HLb HP]; · iapply HLb; simp only [Land]; iexact HP
  isplitl [HN]; · iapply (keep (Nxt d j c) (cN_recv (hopR s))); iexact HN
  iapply (bun_got d j c (hopR s))
  isplitl [HB] <;> iassumption

theorem step_gotA {Q : PUnit → sProp 𝕄} (hn : n (d, j) = recvAt (hopA s)) (hb : ∀ x : Strip × Fin 6, n x.1 ≤ sendAt x.2 → hopA s < x.2) :
    iprop(levAts L lv ∗ Gs X Y c n ∗ (Gs X Y c (bump n (d, j)) -∗ WP c K Q)) ⊢ WP c (step c (.gotA s d j) K) Q := by
  have hv : (hopA s).val = s.val + 3 := Nat.add_comm 3 s.val
  unfold step Act.run; simp only [Prog.lift, Prog.bind_op, Prog.bind_ret]
  refine BIBase.Entails.trans ?_ (wp_cell_wait X Y c 1 (hopA s) d j (owed c n) _ (rest_recv X Y (hopA s) d j c) (semAt_4 s d j) (outB_credit (offAt agOffs s d j c) (ag_inb s d j c)))
  iintro ⟨Hlev, HG, Hk⟩
  ihave H := (Gs_open X Y c n d j hn) $$ HG
  icases H with ⟨HO, HS, Hback⟩
  unfold St
  icases HS with ⟨HS, HR, HW, HL, HN, HB⟩
  ihave HR := (upd (Rcv X Y d j c) (hopA s) (cR_recv (hopA s)).1 (cR_recv (hopA s)).2.1 (cR_recv (hopA s)).2.2) $$ HR
  icases HR with ⟨HR, HRb⟩
  ihave HW := (upd (Own X Y d j c) s.castSucc (cO_gotA s).1 (cO_gotA s).2.1 (cO_gotA s).2.2) $$ HW
  icases HW with ⟨-, HWb⟩
  simp only [Rcv]
  icases HR with ⟨HI, Hc, Hat⟩
  isplitl [HI]; · iexact HI
  isplitl [Hc]; · iexact Hc
  isplitl [Hat]; · iexact Hat
  isplitl [HO]; · iexact HO
  isplitl [Hlev]
  · iapply (mayWait c _ n (fun x hx => by rw [lv_recv]; have := hb x hx; exact Nat.add_lt_add_left this 2)); iexact Hlev
  iintro ⟨Hz, HP, HO⟩
  unfold recvPay dat
  rw [dif_neg (show ¬ (hopA s).val < 3 by omega)]
  icases HP with ⟨HP, HE⟩
  iapply Hk
  iapply Hback
  rw [owed_keep c n (d, j) (fun h => hn ▸ not_send_recv _ h)]
  isplitl [HO]; · iexact HO
  isplitl [HS]; · iapply (keep (Snd X Y d j c) (cS_recv (hopA s))); iexact HS
  isplitl [Hz HRb]; · iapply HRb; iexact Hz
  isplitl [HWb HP]
  · iapply HWb; simp only [Own]; rw [show s.castSucc.val = (hopA s).val - 3 by rw [hv]; rfl]; iexact HP
  isplitl [HL]; · iapply (keep (Land X Y d j c) (cL_gotA s)); iexact HL
  isplitl [HN]; · iapply (keep (Nxt d j c) (cN_recv (hopA s))); iexact HN
  iapply (bun_got d j c (hopA s))
  isplitl [HB] <;> iassumption

theorem step_doneR {Q : PUnit → sProp 𝕄} (hn : n (d, j) = doneAt (hopR s)) :
    iprop(levAts L lv ∗ Gs X Y c n ∗ (Gs X Y c (bump n (d, j)) -∗ WP c K Q)) ⊢ WP c (step c (.doneR s d j) K) Q := by
  unfold step Act.run; simp only [Prog.lift, Prog.bind_op, Prog.bind_ret]
  refine BIBase.Entails.trans ?_ (wp_cell_wait X Y c 0 (hopR s) d j (owed c n) _ (rest_send X Y (hopR s) d j c) (semAt_1 s d j) (outB_credit (offAt rsOffs s d j c) (rs_inb s d j c)))
  iintro ⟨Hlev, HG, Hk⟩
  ihave H := (Gs_open X Y c n d j hn) $$ HG
  icases H with ⟨HO, HS, Hback⟩
  unfold St
  icases HS with ⟨HS, HR, HW, HL, HN, HB⟩
  ihave HS := (upd (Snd X Y d j c) (hopR s) (cS_done (hopR s)).1 (cS_done (hopR s)).2.1 (cS_done (hopR s)).2.2) $$ HS
  icases HS with ⟨HS, HSb⟩
  simp only [Snd]
  icases HS with ⟨HI, Hc, Hat⟩
  isplitl [HI]; · iexact HI
  isplitl [Hc]; · iexact Hc
  isplitl [Hat]; · iexact Hat
  isplitl [HO]; · iexact HO
  isplitl [Hlev]
  · iapply (mayWait c _ n (fun x hx => by rw [lv_send]; omega)); iexact Hlev
  iintro ⟨Hz, -, HO⟩
  iapply Hk
  iapply Hback
  rw [owed_keep c n (d, j) (fun h => hn ▸ not_send_done _ h)]
  isplitl [HO]; · iexact HO
  isplitl [Hz HSb]; · iapply HSb; iexact Hz
  isplitl [HR]; · iapply (keep (Rcv X Y d j c) (cR_done (hopR s))); iexact HR
  isplitl [HW]; · iapply (keep (Own X Y d j c) (cO_doneR s)); iexact HW
  isplitl [HL]; · iapply (keep (Land X Y d j c) (cL_done (hopR s))); iexact HL
  isplitl [HN]; · iapply (keep (Nxt d j c) (cN_done (hopR s))); iexact HN
  iapply (keep (Bun d j c) (cB_done (hopR s))); iexact HB

theorem step_doneA {Q : PUnit → sProp 𝕄} (hn : n (d, j) = doneAt (hopA s)) :
    iprop(levAts L lv ∗ Gs X Y c n ∗ (Gs X Y c (bump n (d, j)) -∗ WP c K Q)) ⊢ WP c (step c (.doneA s d j) K) Q := by
  have hv : (hopA s).val = s.val + 3 := Nat.add_comm 3 s.val
  unfold step Act.run; simp only [Prog.lift, Prog.bind_op, Prog.bind_ret]
  refine BIBase.Entails.trans ?_ (wp_cell_wait X Y c 0 (hopA s) d j (owed c n) _ (rest_send X Y (hopA s) d j c) (semAt_3 s d j) (outB_credit (offAt agOffs s d j c) (ag_inb s d j c)))
  iintro ⟨Hlev, HG, Hk⟩
  ihave H := (Gs_open X Y c n d j hn) $$ HG
  icases H with ⟨HO, HS, Hback⟩
  unfold St
  icases HS with ⟨HS, HR, HW, HL, HN, HB⟩
  ihave HS := (upd (Snd X Y d j c) (hopA s) (cS_done (hopA s)).1 (cS_done (hopA s)).2.1 (cS_done (hopA s)).2.2) $$ HS
  icases HS with ⟨HS, HSb⟩
  ihave HW := (upd (Own X Y d j c) (agK s) (cO_doneA s).1 (cO_doneA s).2.1 (cO_doneA s).2.2) $$ HW
  icases HW with ⟨-, HWb⟩
  simp only [Snd]
  icases HS with ⟨HI, Hc, Hat⟩
  isplitl [HI]; · iexact HI
  isplitl [Hc]; · iexact Hc
  isplitl [Hat]; · iexact Hat
  isplitl [HO]; · iexact HO
  isplitl [Hlev]
  · iapply (mayWait c _ n (fun x hx => by rw [lv_send]; omega)); iexact Hlev
  iintro ⟨Hz, HP, HO⟩
  have hpay : sendPay X Y (hopA s) d j c = oPt c (ch d (s.val + 3) c) d j (fin X Y) := by
    unfold sendPay; rw [if_neg (show ¬ (hopA s).val < 3 by omega), hv]
  ihave HP := (Entails.of_eq hpay) $$ HP
  iapply Hk
  iapply Hback
  rw [owed_keep c n (d, j) (fun h => hn ▸ not_send_done _ h)]
  isplitl [HO]; · iexact HO
  isplitl [Hz HSb]; · iapply HSb; iexact Hz
  isplitl [HR]; · iapply (keep (Rcv X Y d j c) (cR_done (hopA s))); iexact HR
  isplitl [HWb HP]; · iapply HWb; simp only [Own]; rw [ch_agK]; iexact HP
  isplitl [HL]; · iapply (keep (Land X Y d j c) (cL_done (hopA s))); iexact HL
  isplitl [HN]; · iapply (keep (Nxt d j c) (cN_done (hopA s))); iexact HN
  iapply (keep (Bun d j c) (cB_done (hopA s))); iexact HB

omit [FloatOps F] in
theorem sub_oP (k : Fin 4) : oM.view.setOn (oR k d j).toLoadRect.set ⊆ oP k d j :=
  (View.set_slice oM.view (oR k d j)).symm.subset.trans (View.set_slice_whole cc0_stg2_0 (oR k d j)).subset
omit [FloatOps F] in
theorem sub_kP : kM.view.setOn (kR s d j).toLoadRect.set ⊆ kP s d j :=
  (View.set_slice kM.view (kR s d j)).symm.subset.trans (View.set_slice_whole cc0_scratch0 (kR s d j)).subset

omit [FloatOps F] in
theorem sub_acc (k : Fin 4) : (oM.access (oR k d j)).setOn Finset.univ ⊆ oP k d j := (View.set_slice_whole cc0_stg2_0 (oR k d j)).subset

/-- The program of an addition on equal offsets. -/
theorem acc_congr {off off' : Fin 2 → ℕ} {h h'} (ho : off = off') :
    (Prog.op (.load oM (Rect.unit (s := S1024x1024) off S256x128.size h).toLoadRect (View.loadsAt_vmem h_S256x128)) fun x =>
      Prog.op (.load kM (kR s d j).toLoadRect (View.loadsAt_vmem h_S1x256x128)) fun y =>
      Prog.op (.load oM (Rect.unit (s := S1024x1024) off S256x128.size h).toLoadRect (View.loadsAt_vmem h_S256x128)) fun _ =>
      Prog.op (.store oM (Rect.unit (s := S1024x1024) off S256x128.size h) (k0_pay9 x y) Finset.univ (View.stores_vmem_bits_univ h_S256x128 rfl) (.inl rfl)) fun _ => K)
    = (Prog.op (.load oM (Rect.unit (s := S1024x1024) off' S256x128.size h').toLoadRect (View.loadsAt_vmem h_S256x128)) fun x =>
      Prog.op (.load kM (kR s d j).toLoadRect (View.loadsAt_vmem h_S1x256x128)) fun y =>
      Prog.op (.load oM (Rect.unit (s := S1024x1024) off' S256x128.size h').toLoadRect (View.loadsAt_vmem h_S256x128)) fun _ =>
      Prog.op (.store oM (Rect.unit (s := S1024x1024) off' S256x128.size h') (k0_pay9 x y) Finset.univ (View.stores_vmem_bits_univ h_S256x128 rfl) (.inl rfl)) fun _ => K : Prog (TpuEff nD τ sig (Elt F) Λ₀ .tc) PUnit) := by
  subst ho; rfl

theorem step_acc {Q : PUnit → sProp 𝕄} (hn : n (d, j) = accAt s) :
    iprop(Gs X Y c n ∗ (Gs X Y c (bump n (d, j)) -∗ WP c K Q)) ⊢ WP c (step c (.acc s d j) K) Q := by
  unfold step Act.run; simp only [Prog.lift, Prog.bind_op, Prog.bind_ret]
  rw [acc_congr s d j K (off' := offP (ch d (s.val + 1) c) d j) (h' := strip_inb d j (ch d (s.val + 1) c).isLt) (accOff_eq s d j c)]
  iintro ⟨HG, Hk⟩
  ihave H := (Gs_open X Y c n d j hn) $$ HG
  icases H with ⟨HO, HS, Hback⟩
  unfold St
  icases HS with ⟨HS, HR, HW, HL, HN, HB⟩
  ihave HW := (upd (Own X Y d j c) s.succ (cO_acc s).1 (cO_acc s).2.1 (cO_acc s).2.2) $$ HW
  icases HW with ⟨HW, HWb⟩
  ihave HL := (upd (Land X Y d j c) s (cL_acc s).1 (cL_acc s).2.1 (cL_acc s).2.2) $$ HL
  icases HL with ⟨HL, HLb⟩
  ihave HW := (Entails.of_eq (show Own X Y d j c s.succ 1
    = (((c : Thread nD τ).loc cc0_stg2_0) ↦[oP (ch d (s.val + 1) c) d j]{fullShare} (prod X Y c)) from rfl)) $$ HW
  ihave HL := (Entails.of_eq (show Land X Y d j c s 1 = (((c : Thread nD τ).loc cc0_scratch0) ↦[kP s d j]{fullShare} (landed X Y c)) from rfl)) $$ HL
  iapply (wp_load 𝒱₀ (c : Thread nD τ) none Set.univ (m := oM) (sub_oP d j (ch d (s.val + 1) c))) $$ HW; iintro HW
  iapply (wp_load 𝒱₀ (c : Thread nD τ) none Set.univ (m := kM) (sub_kP s d j)) $$ HL; iintro HL
  iapply (wp_load 𝒱₀ (c : Thread nD τ) none Set.univ (m := oM) (sub_oP d j (ch d (s.val + 1) c))) $$ HW; iintro HW
  iapply (wp_store 𝒱₀ (c : Thread nD τ) none Set.univ (m := oM) (r := oR (ch d (s.val + 1) c) d j) (Mk := Finset.univ)
    (sub_acc d j (ch d (s.val + 1) c))) $$ HW; iintro HW
  iapply Hk
  iapply Hback
  rw [owed_keep c n (d, j) (fun h => hn ▸ not_send_acc _ h)]
  isplitl [HO]; · iexact HO
  isplitl [HS]; · iapply (keep (Snd X Y d j c) (cS_acc s)); iexact HS
  isplitl [HR]; · iapply (keep (Rcv X Y d j c) (cR_acc s)); iexact HR
  isplitl [HWb HW]
  · iapply HWb; iapply (own_acc X Y d j c s)
    iapply (Entails.of_eq (oPt_congr (acc_of_add X Y c s d j (prod X Y c) fun _ _ => rfl))); unfold oPt; iexact HW
  isplitl [HLb HL]; · iapply HLb; simp only [Land]; unfold kPt; iexact HL
  isplitl [HN]; · iapply (keep (Nxt d j c) (cN_acc s)); iexact HN
  iapply (keep (Bun d j c) (cB_acc s)); iexact HB

end

end Cert.KernelIdeal.Gen

end
-- ==== Proof.Order.lean ====
module

public import proofs.«01_k».proof.Proof.Acts

@[expose] public section

/-! # A list of actions

The actions of a list are executed when each finds its strip at its stage.-/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x256 .f32) (Y : Dev nD → Vec F S256x1024 .f32)

/-- The strip an action works on. -/
def Act.strip : Act → Strip
  | .rs _ d j | .ag _ d j | .gotR _ d j | .gotA _ d j | .acc _ d j | .doneR _ d j | .doneA _ d j => (d, j)

/-- Every copy of hop `h` or an earlier one has left. -/
def left (n : Strip → ℕ) (h : Fin 6) : Prop := ∀ x : Strip × Fin 6, n x.1 ≤ sendAt x.2 → h < x.2
instance (n h) : Decidable (left n h) := by unfold left; infer_instance

/-- An action can be taken at the stages `n`. -/
def Act.ok (n : Strip → ℕ) : Act → Prop
  | .rs s d j => n (d, j) = sendAt (hopR s)
  | .ag s d j => n (d, j) = sendAt (hopA s)
  | .gotR s d j => n (d, j) = recvAt (hopR s) ∧ left n (hopR s)
  | .gotA s d j => n (d, j) = recvAt (hopA s) ∧ left n (hopA s)
  | .acc s d j => n (d, j) = accAt s
  | .doneR s d j => n (d, j) = doneAt (hopR s)
  | .doneA s d j => n (d, j) = doneAt (hopA s)
instance (n a) : Decidable (Act.ok n a) := by cases a <;> unfold Act.ok <;> infer_instance

/-- A list of actions can be taken, one after the other. -/
def valid : (Strip → ℕ) → List Act → Prop
  | _, [] => True
  | n, a :: l => a.ok n ∧ valid (bump n a.strip) l
instance decValid : ∀ (n : Strip → ℕ) (l : List Act), Decidable (valid n l)
  | _, [] => isTrue trivial
  | n, a :: l => by
    have := decValid (bump n a.strip) l
    unfold valid; infer_instance
/-- The stages after a list. -/
def after : (Strip → ℕ) → List Act → Strip → ℕ
  | n, [] => n
  | n, a :: l => after (bump n a.strip) l

theorem step_ok (c : Dev nD) (a : Act) (n : Strip → ℕ) (K : Prog (TpuEff nD τ sig (Elt F) Λ₀ .tc) PUnit) {Q : PUnit → sProp 𝕄} (h : a.ok n) :
    iprop(levAts L lv ∗ Gs X Y c n ∗ (Gs X Y c (bump n a.strip) -∗ WP c K Q)) ⊢ WP c (step c a K) Q := by
  cases a with
  | rs s d j => exact (sep_elim_right).trans (step_rs X Y c s d j n K h)
  | ag s d j => exact (sep_elim_right).trans (step_ag X Y c s d j n K h)
  | gotR s d j => exact step_gotR X Y c s d j n K h.1 h.2
  | gotA s d j => exact step_gotA X Y c s d j n K h.1 h.2
  | acc s d j => exact (sep_elim_right).trans (step_acc X Y c s d j n K h)
  | doneR s d j => exact step_doneR X Y c s d j n K h
  | doneA s d j => exact step_doneA X Y c s d j n K h

/-- A list of actions that can be taken goes through. -/
theorem wp_runAll (c : Dev nD) (K : Prog (TpuEff nD τ sig (Elt F) Λ₀ .tc) PUnit) {Q : PUnit → sProp 𝕄} (l : List Act) : ∀ n, valid n l →
    iprop(levAts L lv ∗ Gs X Y c n ∗ (Gs X Y c (after n l) -∗ WP c K Q))
      ⊢ WP c (runAll oM kM cc0_scratch1 cc0_scratch2 cc0_scratch3 cc0_scratch4 c K l) Q := by
  induction l with
  | nil =>
    intro n _
    iintro ⟨-, HG, Hk⟩
    iapply Hk; iexact HG
  | cons a l ih =>
    intro n h
    show iprop(levAts L lv ∗ Gs X Y c n ∗ (Gs X Y c (after (bump n a.strip) l) -∗ WP c K Q)) ⊢ _
    iintro ⟨#Hlev, HG, Hk⟩
    iapply (step_ok X Y c a n (runAll oM kM cc0_scratch1 cc0_scratch2 cc0_scratch3 cc0_scratch4 c K l) h.1)
    isplitr; · iexact Hlev
    isplitl [HG]; · iexact HG
    iintro HG
    iapply (ih (bump n a.strip) h.2)
    isplitr; · iexact Hlev
    isplitl [HG] <;> iassumption

set_option maxRecDepth 100000 in
/-- The first copies, -/
theorem valid_acts0 : valid (fun _ => 0) acts0 := by decide +kernel
theorem after_acts0 : after (fun _ => 0) acts0 = fun _ => 1 := funext fun p => by revert p; decide +kernel
set_option maxRecDepth 100000 in
/-- and everything after the products. -/
theorem valid_acts1 : valid (fun _ => 2) acts1 := by decide +kernel
set_option maxRecDepth 100000 in
theorem after_acts1 : after (fun _ => 2) acts1 = fun _ => 22 := funext fun p => by revert p; decide +kernel

end Cert.KernelIdeal.Gen

end
-- ==== Proof.Tiles.lean ====
module

public import proofs.«01_k».proof.Proof.Order

@[expose] public section

/-! # Buffers and blocks

The result and the landing buffer as the blocks of the strips, and the first and last stages of a strip. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x256 .f32) (Y : Dev nD → Vec F S256x1024 .f32)

theorem two_lt (q : ℕ) (h : q < 1024) : q / 128 / 4 < 2 := by omega

omit [FloatOps F] in
/-- The landing buffer is its blocks, -/
theorem kM_split (c : Dev nD) (f : Vec F S3x256x1024 .f32) :
    ((((c : Thread nD τ).loc cc0_scratch0) ↦{fullShare} f : sProp 𝕄))
      = bigSep Finset.univ fun p : Strip => bigSep Finset.univ fun s : Fin 3 => kPt c s p.1 p.2 f := by
  have hu : (Finset.univ : Finset (Strip × Fin 3)).biUnion (fun t => kP t.2 t.1.1 t.1.2) = (Finset.univ : Finset S3x256x1024.Idx) := by
    refine Finset.eq_univ_iff_forall.2 fun i => Finset.mem_biUnion.2 ?_
    have h2 : (i 2).val < 1024 := (i 2).isLt
    exact ⟨((⟨(i 2).val / 128 / 4, two_lt _ h2⟩, ⟨(i 2).val / 128 % 4, Nat.mod_lt _ (by decide)⟩), ⟨(i 0).val, (i 0).isLt⟩), Finset.mem_univ _,
      mem_kP.2 ⟨rfl, (Nat.div_add_mod ((i 2).val / 128) 4).symm⟩⟩
  have hd : ∀ t ∈ (Finset.univ : Finset (Strip × Fin 3)), ∀ t' ∈ (Finset.univ : Finset (Strip × Fin 3)), t ≠ t' → Disjoint (kP t.2 t.1.1 t.1.2) (kP t'.2 t'.1.1 t'.1.2) := by
    rintro ⟨⟨d, j⟩, s⟩ - ⟨⟨d', j'⟩, s'⟩ - hne
    refine Finset.disjoint_left.2 fun i hi hi' => hne ?_
    obtain ⟨h1, h2⟩ := mem_kP.1 hi
    obtain ⟨h1', h2'⟩ := mem_kP.1 hi'
    dsimp only at h1 h2 h1' h2'
    have e1 : s = s' := Fin.ext (h1.symm.trans h1')
    have e2 : d = d' := Fin.ext (by omega)
    have e3 : j = j' := Fin.ext (by omega)
    rw [e1, e2, e3]
  refine (congrArg (fun S => (((c : Thread nD τ).loc cc0_scratch0) ↦[S]{fullShare} f : sProp 𝕄)) hu.symm).trans ?_
  rw [pointsTo_biUnion _ _ hd, bigSep_univ_prod]; rfl

omit [FloatOps F] in
/-- the result is its blocks, -/
theorem oM_split (c : Dev nD) (f : Vec F S1024x1024 .f32) :
    ((((c : Thread nD τ).loc cc0_stg2_0) ↦{fullShare} f : sProp 𝕄))
      = bigSep Finset.univ fun p : Strip => bigSep Finset.univ fun k : Fin 4 => oPt c k p.1 p.2 f := by
  have hu : (Finset.univ : Finset (Strip × Fin 4)).biUnion (fun t => oP t.2 t.1.1 t.1.2) = (Finset.univ : Finset S1024x1024.Idx) := by
    refine Finset.eq_univ_iff_forall.2 fun i => Finset.mem_biUnion.2 ?_
    have h0 : (i 0).val < 1024 := (i 0).isLt
    have h1 : (i 1).val < 1024 := (i 1).isLt
    exact ⟨((⟨(i 1).val / 128 / 4, two_lt _ h1⟩, ⟨(i 1).val / 128 % 4, Nat.mod_lt _ (by decide)⟩), ⟨(i 0).val / 256, by omega⟩), Finset.mem_univ _,
      mem_oP.2 ⟨rfl, (Nat.div_add_mod ((i 1).val / 128) 4).symm⟩⟩
  have hd : ∀ t ∈ (Finset.univ : Finset (Strip × Fin 4)), ∀ t' ∈ (Finset.univ : Finset (Strip × Fin 4)), t ≠ t' → Disjoint (oP t.2 t.1.1 t.1.2) (oP t'.2 t'.1.1 t'.1.2) := by
    rintro ⟨⟨d, j⟩, k⟩ - ⟨⟨d', j'⟩, k'⟩ - hne
    refine Finset.disjoint_left.2 fun i hi hi' => hne ?_
    obtain ⟨h1, h2⟩ := mem_oP.1 hi
    obtain ⟨h1', h2'⟩ := mem_oP.1 hi'
    dsimp only at h1 h2 h1' h2'
    have e1 : k = k' := Fin.ext (h1.symm.trans h1')
    have e2 : d = d' := Fin.ext (by omega)
    have e3 : j = j' := Fin.ext (by omega)
    rw [e1, e2, e3]
  refine (congrArg (fun S => (((c : Thread nD τ).loc cc0_stg2_0) ↦[S]{fullShare} f : sProp 𝕄)) hu.symm).trans ?_
  rw [pointsTo_biUnion _ _ hd, bigSep_univ_prod]; rfl

/-- Four rows of blocks of a result. -/
def row (c : Dev nD) (k : Fin 4) (f : Vec F S1024x1024 .f32) : sProp 𝕄 := ((c : Thread nD τ).loc cc0_stg2_0) ↦[rP k]{fullShare} f

omit [FloatOps F] in
theorem row_split (c : Dev nD) (k : Fin 4) (f : Vec F S1024x1024 .f32) :
    row c k f = bigSep Finset.univ fun p : Strip => oPt c k p.1 p.2 f := by
  have hu : (Finset.univ : Finset Strip).biUnion (fun t => oP k t.1 t.2) = rP k := by
    refine Finset.ext fun i => ?_
    rw [Finset.mem_biUnion, mem_rP]
    have h1 : (i 1).val < 1024 := (i 1).isLt
    constructor
    · rintro ⟨p, -, hp⟩; exact (mem_oP.1 hp).1
    · intro h
      exact ⟨(⟨(i 1).val / 128 / 4, two_lt _ h1⟩, ⟨(i 1).val / 128 % 4, Nat.mod_lt _ (by decide)⟩), Finset.mem_univ _,
        mem_oP.2 ⟨h, (Nat.div_add_mod ((i 1).val / 128) 4).symm⟩⟩
  have hd : ∀ t ∈ (Finset.univ : Finset Strip), ∀ t' ∈ (Finset.univ : Finset Strip), t ≠ t' → Disjoint (oP k t.1 t.2) (oP k t'.1 t'.2) := by
    rintro ⟨d, j⟩ - ⟨d', j'⟩ - hne
    refine Finset.disjoint_left.2 fun i hi hi' => hne ?_
    obtain ⟨h1, h2⟩ := mem_oP.1 hi
    obtain ⟨h1', h2'⟩ := mem_oP.1 hi'
    dsimp only at h1 h2 h1' h2'
    have e2 : d = d' := Fin.ext (by omega)
    have e3 : j = j' := Fin.ext (by omega)
    rw [e2, e3]
  unfold row
  rw [← hu, pointsTo_biUnion _ _ hd]; rfl
omit [FloatOps F] in
/-- the result is its rows, in the order of the products. -/
theorem oM_rows (c : Dev nD) (f : Vec F S1024x1024 .f32) :
    ((((c : Thread nD τ).loc cc0_stg2_0) ↦{fullShare} f : sProp 𝕄))
      = iprop(row c (ch 0 0 c) f ∗ row c (ch 0 1 c) f ∗ row c (ch 0 3 c) f ∗ row c (ch 0 2 c) f) := by
  have hu : (Finset.univ : Finset (Fin 4)).biUnion rP = (Finset.univ : Finset S1024x1024.Idx) := by
    refine Finset.eq_univ_iff_forall.2 fun i => Finset.mem_biUnion.2 ?_
    have h0 : (i 0).val < 1024 := (i 0).isLt
    exact ⟨⟨(i 0).val / 256, by omega⟩, Finset.mem_univ _, mem_rP.2 rfl⟩
  have hd : ∀ t ∈ (Finset.univ : Finset (Fin 4)), ∀ t' ∈ (Finset.univ : Finset (Fin 4)), t ≠ t' → Disjoint (rP t) (rP t') := by
    intro k _ k' _ hne
    exact Finset.disjoint_left.2 fun i hi hi' => hne (Fin.ext ((mem_rP.1 hi).symm.trans (mem_rP.1 hi')))
  refine (congrArg (fun S => (((c : Thread nD τ).loc cc0_stg2_0) ↦[S]{fullShare} f : sProp 𝕄)) hu.symm).trans ?_
  rw [pointsTo_biUnion _ _ hd, bigSep_univ_eq_bigSepL [ch 0 0 c, ch 0 1 c, ch 0 3 c, ch 0 2 c] (by revert c; decide) (by revert c; decide)]
  rfl

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_ch (d : Fin 2) (c : Dev nD) (Φ : Fin 4 → sProp 𝕄) : (bigSep Finset.univ fun k : Fin 4 => Φ (ch d k.val c)) = bigSep Finset.univ Φ := by
  rw [bigSep_four, bigSep_univ_eq_bigSepL [ch d 0 c, ch d 1 c, ch d 2 c, ch d 3 c] (by revert d c; decide) (by revert d c; decide) Φ]
  rfl
omit [FloatOps F] in
theorem bigSep_emp_intro {ι : Type} [Fintype ι] {Φ : ι → sProp 𝕄} (h : ∀ x, Φ x = iprop(emp)) : iprop(emp) ⊢ bigSep Finset.univ Φ := by
  rw [bigSep_congr (Ψ := fun _ => (iprop(emp) : sProp 𝕄)) fun x _ => h x]
  exact Entails.of_eq (BI.bigSep_emp_const _).symm

/-! ## The first and the last stage -/

/-- A strip before its first copy: the product of the first rows and the neighbour's landing blocks are held. -/
theorem St_start (d j) (c : Dev nD) :
    iprop((bigSep Finset.univ fun h => Snd X Y d j c h 0) ∗ (bigSep Finset.univ fun h => Rcv X Y d j c h 0)
        ∗ oPt c (ch d 0 c) d j (prod X Y c) ∗ bigSep Finset.univ fun s : Fin 3 => kAny (nx d c) s d j)
      ⊢ St X Y d j c 0 := by
  unfold St
  iintro ⟨HS, HR, HW, HN⟩
  isplitl [HS]; · iapply (keep (Snd X Y d j c) (a := fun _ => 0) (by decide)); iexact HS
  isplitl [HR]; · iapply (keep (Rcv X Y d j c) (a := fun _ => 0) (by decide)); iexact HR
  isplitl [HW]
  · iapply (keep (Own X Y d j c) (a := ![1, 0, 0, 0]) (by decide))
    rw [bigSep_four]
    isplitl [HW]; · iapply (Entails.of_eq (show oPt c (ch d 0 c) d j (prod X Y c) = Own X Y d j c 0 (![1, 0, 0, 0] 0) from rfl)); iexact HW
    isplitr; · exact Entails.refl _
    isplitr <;> exact Entails.refl _
  isplitr
  · iapply (keep (Land X Y d j c) (a := fun _ => 0) (by decide)); iapply (bigSep_emp_intro fun _ => rfl); iempintro
  isplitl [HN]; · iapply (keep (Nxt d j c) (a := fun _ => 1) (by decide)); iexact HN
  iapply (keep (Bun d j c) (a := ![1, 0, 0, 0, 0, 0]) (by decide))
  iapply (bigSep_emp_intro fun x => by fin_cases x <;> rfl); iempintro

/-- The products of the other rows join after the first copy. -/
theorem St_prods (d j) (c : Dev nD) :
    iprop(St X Y d j c 1 ∗ oPt c (ch d 1 c) d j (prod X Y c) ∗ oPt c (ch d 2 c) d j (prod X Y c) ∗ oPt c (ch d 3 c) d j (prod X Y c))
      ⊢ St X Y d j c 2 := by
  unfold St
  iintro ⟨⟨HS, HR, -, HL, HN, HB⟩, H1, H2, H3⟩
  isplitl [HS]; · iapply (keep (Snd X Y d j c) (a := cS 1) (by decide)); iexact HS
  isplitl [HR]; · iapply (keep (Rcv X Y d j c) (a := cR 1) (by decide)); iexact HR
  isplitl [H1 H2 H3]
  · iapply (keep (Own X Y d j c) (a := ![0, 1, 1, 1]) (by decide))
    rw [bigSep_four]
    isplitr; · exact Entails.refl _
    isplitl [H1]; · iapply (Entails.of_eq (show oPt c (ch d 1 c) d j (prod X Y c) = Own X Y d j c 1 (![0, 1, 1, 1] 1) from rfl)); iexact H1
    isplitl [H2]; · iapply (Entails.of_eq (show oPt c (ch d 2 c) d j (prod X Y c) = Own X Y d j c 2 (![0, 1, 1, 1] 2) from rfl)); iexact H2
    iapply (Entails.of_eq (show oPt c (ch d 3 c) d j (prod X Y c) = Own X Y d j c 3 (![0, 1, 1, 1] 3) from rfl)); iexact H3
  isplitl [HL]; · iapply (keep (Land X Y d j c) (a := cL 1) (by decide)); iexact HL
  isplitl [HN]; · iapply (keep (Nxt d j c) (a := cN 1) (by decide)); iexact HN
  iapply (keep (Bun d j c) (a := cB 1) (by decide)); iexact HB

/-- A strip at its end: every cell closed, the whole sum in its blocks. -/
theorem St_end (d j) (c : Dev nD) :
    St X Y d j c 22 ⊢ iprop(((bigSep Finset.univ fun h => semVal (cell 0 h d j c) 0) ∗ bigSep Finset.univ fun h => semVal (cell 1 h d j c) 0)
      ∗ (bigSep Finset.univ fun k => oPt c k d j (fin X Y)) ∗ bigSep Finset.univ fun s => kPt c s d j (landed X Y c)) := by
  unfold St
  iintro ⟨HS, HR, HW, HL, -, -⟩
  isplitl [HS HR]
  · isplitl [HS]
    · ihave H := (keep (Snd X Y d j c) (b := fun _ => 2) (by decide)) $$ HS
      iexact H
    · ihave H := (keep (Rcv X Y d j c) (b := fun _ => 1) (by decide)) $$ HR
      iexact H
  isplitl [HW]
  · ihave H := (keep (Own X Y d j c) (b := fun _ => 3) (by decide)) $$ HW
    iapply (Entails.of_eq (bigSep_ch d c fun k => oPt c k d j (fin X Y))); iexact H
  · ihave H := (keep (Land X Y d j c) (b := fun _ => 1) (by decide)) $$ HL
    iexact H

end Cert.KernelIdeal.Gen

end
-- ==== Proof.Body.lean ====
module

public import proofs.«01_k».proof.Proof.Tiles

@[expose] public section

/-! # The body

The barrier, a product of one block of rows, and the whole body on a symbolic device. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x256 .f32) (Y : Dev nD → Vec F S256x1024 .f32)

/-- What a device owes at the start: the two barrier units of its neighbours and all its arrivals. -/
def O₀ (c : Dev nD) : CellTallies nD τ sig Unit :=
  owed c (fun _ => 0) + tallyAt (barC (nx 0 c)) () 1 + tallyAt (barC (nx 1 c)) () 1

theorem dev1_eq (c : Dev nD) : (⟨k0_dev1 c, k0_dev1_lt c⟩ : Dev nD) = nx 1 c := by revert c; decide +kernel
theorem dev2_eq (c : Dev nD) : (⟨k0_dev2 c, k0_dev2_lt c⟩ : Dev nD) = nx 0 c := by revert c; decide +kernel

/-- A device's part of the barrier: the cells' invariants, its turn, the two tokens it spends and its two units. -/
def BarG (c : Dev nD) : sProp 𝕄 :=
  iprop((∃ κ, cellInv ER (Rd X Y) κ (barC c)) ∗ (∃ κ, cellInv ER (Rd X Y) κ (barC (nx 0 c))) ∗ (∃ κ, cellInv ER (Rd X Y) κ (barC (nx 1 c)))
    ∗ atPos ER (barC c) 0 ∅ 0
    ∗ dutyTok ER (barC (nx 1 c)) 0 0 ∗ reached ER (barC (nx 1 c)) 0 ∗ dutyTok ER (barC (nx 0 c)) 0 1 ∗ reached ER (barC (nx 0 c)) 0
    ∗ cred (tallyAt (barC c) () 2))

/-- A device's landing blocks of one direction, at any contents. -/
def lands (d : Fin 2) (c : Dev nD) : sProp 𝕄 := bigSep Finset.univ fun j : Fin 4 => bigSep Finset.univ fun s : Fin 3 => kAny c s d j

theorem bar_low (x : Strip × Fin 6) (_ : 0 ≤ sendAt x.2) : 1 < 2 + x.2.val := by omega

/-- The barrier: the own landing blocks go to the neighbours, and theirs come. -/
theorem wp_barrier (c : Dev nD) (K) (Q : PUnit → sProp 𝕄) :
    iprop(BarG X Y c ∗ levAts L lv ∗ lands 0 c ∗ lands 1 c ∗ (∃ W, owes (c : Thread nD τ) (O₀ c) W)
        ∗ ((semVal (barC c) 0 ∗ (∃ W, owes (c : Thread nD τ) (owed c fun _ => 0) W) ∗ lands 0 (nx 0 c) ∗ lands 1 (nx 1 c)) -∗ WP c K Q))
      ⊢ WP c (barrier c K) Q := by
  unfold barrier BarG O₀
  iintro ⟨⟨⟨%κ, #HI⟩, ⟨%κ0, #HI0⟩, ⟨%κ1, #HI1⟩, Hat, Ht1, #Hr1, Ht0, #Hr0, Hc⟩, #Hlev, HL0, HL1, ⟨%W, HO⟩, HK⟩
  simp only [semSignalWord, semWaitWord, Prog.lift, Prog.bind_op, Prog.bind_ret]
  simp only [dev1_eq c, dev2_eq c]
  iapply (Rounds.wp_signal 𝒱₀ ER (Rd X Y) (c : Thread nD τ) none (dst := (nx 1 c : Thread nD τ)) (κ := κ1) (d := (0 : Fin 2))
      (by rw [duties_bar]; exact Finset.mem_univ _) ((amount_bar X Y (nx 1 c) 0).trans (by decide)) ()
      (owed c (fun _ => 0) + tallyAt (barC (nx 0 c)) () 1) rfl) $$ [HO Ht1 HL0]
  · isplitr; · iexact HI1
    isplitl [HO]; · iexact HO
    isplitl [Ht1]; · iexact Ht1
    isplitl [HL0]
    · iapply (Entails.of_eq (payload_bar X Y (nx 1 c) 0).symm)
      iapply (Entails.of_eq (show lands 0 (nx 0 (nx 1 c)) = barPay 0 (nx 1 c) from rfl))
      rw [show nx 0 (nx 1 c) = c from nx_flip 0 c]; iexact HL0
    iexact Hr1
  iintro HO
  iapply (Rounds.wp_signal 𝒱₀ ER (Rd X Y) (c : Thread nD τ) none (dst := (nx 0 c : Thread nD τ)) (κ := κ0) (d := (1 : Fin 2))
      (by rw [duties_bar]; exact Finset.mem_univ _) ((amount_bar X Y (nx 0 c) 1).trans (by decide)) ()
      (owed c (fun _ => 0)) rfl) $$ [HO Ht0 HL1]
  · isplitr; · iexact HI0
    isplitl [HO]; · iexact HO
    isplitl [Ht0]; · iexact Ht0
    isplitl [HL1]
    · iapply (Entails.of_eq (payload_bar X Y (nx 0 c) 1).symm)
      iapply (Entails.of_eq (show lands 1 (nx 1 (nx 0 c)) = barPay 1 (nx 0 c) from rfl))
      rw [show nx 1 (nx 0 c) = c from nx_flip 1 c]; iexact HL1
    iexact Hr0
  iintro HO
  iapply (Rounds.wp_wait_rest_token 𝒱₀ ER (Rd X Y) (c : Thread nD τ) none (κ := κ) (wpE_semWait_eq 𝒱₀ (c : Thread nD τ) none Set.univ) (Set.mem_univ _) ()
      (O := owed c fun _ => 0) (W := W) (R := 0) (m := 0) (T := ∅) (by rw [expect_bar]; decide)) $$ [Hc HO Hat]
  · isplitr; · iexact HI
    isplitl [Hc]; · iexact Hc
    isplitl [HO]; · iexact HO
    isplitr; · iapply (mayWait c (.reg barS) (fun _ => 0) bar_low); iexact Hlev
    iexact Hat
  iintro ⟨HO, Hat, -, Hpay⟩
  ihave Hp := (Entails.of_eq (rest_bar X Y c)) $$ Hpay
  icases Hp with ⟨H0, H1⟩
  imod (Rounds.cell_close ER (Rd X Y) (Set.mem_univ κ) (fun h => h) (R := 0 + 1) (duties_later X Y (barC c))) $$ [Hat] with Hz
  · isplitr; · iexact HI
    iexact Hat
  iapply HK
  isplitl [Hz]; · iexact Hz
  isplitl [HO]; · iexists _; iexact HO
  isplitl [H0]
  · iapply (Entails.of_eq (show barPay 0 c = lands 0 (nx 0 c) from rfl)); iexact H0
  · iapply (Entails.of_eq (show barPay 1 c = lands 1 (nx 1 c) from rfl)); iexact H1

theorem sub_rP (k : Fin 4) : oM.view.setOn (rowR k).toLoadRect.set ⊆ rP k :=
  (View.set_slice oM.view (rowR k)).symm.subset.trans (View.set_slice_whole cc0_stg2_0 (rowR k)).subset
theorem sub_row (k : Fin 4) : (oM.access (rowR k)).setOn Finset.univ ⊆ rP k := (View.set_slice_whole cc0_stg2_0 (rowR k)).subset

/-- One product: four blocks of rows of the result take it. -/
theorem wp_gemm (c : Dev nD) (k : Fin 4) (offX hX offO hO) (eX : offX = rowOff k) (eO : offO = rowOff k) (K) (Q : PUnit → sProp 𝕄)
    (f : Vec F S1024x1024 .f32) :
    iprop((((c : Thread nD τ).loc cc0_stg0_0) ↦{fullShare} X c) ∗ (((c : Thread nD τ).loc cc0_stg1_0) ↦{fullShare} Y c) ∗ row c k f
        ∗ (((((c : Thread nD τ).loc cc0_stg0_0) ↦{fullShare} X c) ∗ (((c : Thread nD τ).loc cc0_stg1_0) ↦{fullShare} Y c) ∗ row c k (prod X Y c)) -∗ WP c K Q))
      ⊢ WP c (gemm xM wM oM offX hX offO hO K) Q := by
  subst eX eO
  unfold gemm row
  iintro ⟨Hx, Hw, Ho, HK⟩
  simp only [Prog.lift, Prog.bind_op, Prog.bind_ret]
  have hz : (![0, 0] : Fin 2 → ℕ) = fun _ => 0 := by funext a; fin_cases a <;> rfl
  have hr : wM.view.readAt (Elt F) (Rect.unit (s := S256x1024) ![0, 0] S256x1024.size inb_S256x1024_S256x1024_0_0).toLoadRect (Y c) = Y c :=
    Memref.readAt_unit_zero (Elt F) cc0_stg1_0 hz _ _
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [hr]
  iapply (wp_load 𝒱₀ (c : Thread nD τ) none Set.univ (m := oM) (sub_rP k)) $$ Ho; iintro Ho
  iapply (wp_store 𝒱₀ (c : Thread nD τ) none Set.univ (m := oM) (r := rowR k) (Mk := Finset.univ) (sub_row k)) $$ Ho; iintro Ho
  have hp : (((c : Thread nD τ).loc cc0_stg2_0) ↦[rP k]{fullShare} (oM.access (rowR k)).write (Elt F) f (k0_pay1 (xrow k (X c)) (Y c)) Finset.univ : sProp 𝕄)
      = (((c : Thread nD τ).loc cc0_stg2_0) ↦[rP k]{fullShare} prod X Y c) := pointsTo_congr (prod_of_gemm X Y c k f)
  iapply HK
  isplitl [Hx]; · iexact Hx
  isplitl [Hw]; · iexact Hw
  iapply (Entails.of_eq hp); iexact Ho

/-- What the launch deals a device for the ring, and what it holds for it at the end. -/
def RingG (c : Dev nD) : sProp 𝕄 := bigSep Finset.univ fun p : Strip =>
  iprop((bigSep Finset.univ fun h => Snd X Y p.1 p.2 c h 0) ∗ bigSep Finset.univ fun h => Rcv X Y p.1 p.2 c h 0)
def zeros (c : Dev nD) : sProp 𝕄 := bigSep Finset.univ fun p : Strip =>
  iprop((bigSep Finset.univ fun h => semVal (cell 0 h p.1 p.2 c) 0) ∗ bigSep Finset.univ fun h => semVal (cell 1 h p.1 p.2 c) 0)

theorem kAny_intro (c : Dev nD) (s : Fin 3) (d : Fin 2) (j : Fin 4) (f : Vec F S3x256x1024 .f32) : kPt c s d j f ⊢ kAny c s d j := by
  unfold kAny; iintro H; iexists f; iexact H

/-- The landing buffer, dealt to the two directions. -/
theorem lands_of (c : Dev nD) (f : Vec F S3x256x1024 .f32) : ((((c : Thread nD τ).loc cc0_scratch0) ↦{fullShare} f : sProp 𝕄)) ⊢ iprop(lands 0 c ∗ lands 1 c) := by
  rw [kM_split, bigSep_univ_prod, bigSep_fin_two]
  unfold lands
  exact BIClass.sep_mono (bigSep_mono fun j _ => bigSep_mono fun s _ => kAny_intro c s _ j f)
    (bigSep_mono fun j _ => bigSep_mono fun s _ => kAny_intro c s _ j f)

/-- The neighbours' landing blocks, strip by strip. -/
theorem lands_strips (c : Dev nD) : iprop(lands 0 (nx 0 c) ∗ lands 1 (nx 1 c))
    ⊢ (bigSep Finset.univ fun p : Strip => bigSep Finset.univ fun s : Fin 3 => kAny (nx p.1 c) s p.1 p.2 : sProp 𝕄) := by
  rw [bigSep_univ_prod, bigSep_fin_two]; exact Entails.refl _

theorem owed_mid (c : Dev nD) : owed c (fun _ => 2) = owed c fun _ => 1 := by
  unfold owed
  refine Finset.sum_congr rfl fun x _ => if_congr ?_ rfl rfl
  have h : ∀ h : Fin 6, (2 ≤ sendAt h ↔ 1 ≤ sendAt h) := by decide
  exact h x.2
theorem owed_end (c : Dev nD) : owed c (fun _ => 22) = 0 := by
  unfold owed
  refine Finset.sum_eq_zero fun x _ => if_neg ?_
  have h : ∀ h : Fin 6, ¬ 22 ≤ sendAt h := by decide
  exact h x.2

theorem strip_start (p : Strip) (c : Dev nD) :
    iprop(((bigSep Finset.univ fun h => Snd X Y p.1 p.2 c h 0) ∗ bigSep Finset.univ fun h => Rcv X Y p.1 p.2 c h 0)
        ∗ (oPt c (ch 0 0 c) p.1 p.2 (prod X Y c) ∗ bigSep Finset.univ fun s : Fin 3 => kAny (nx p.1 c) s p.1 p.2))
      ⊢ St X Y p.1 p.2 c 0 := by
  rw [show ch 0 0 c = ch p.1 0 c by obtain ⟨d, j⟩ := p; show ch 0 0 c = ch d 0 c; revert d c; decide]
  iintro ⟨⟨HS, HR⟩, HW, HN⟩
  iapply (St_start X Y p.1 p.2 c)
  isplitl [HS]; · iexact HS
  isplitl [HR]; · iexact HR
  isplitl [HW] <;> iassumption

/-- The strips at the start, -/
theorem Gs_start (c : Dev nD) :
    iprop(RingG X Y c ∗ (∃ W, owes (c : Thread nD τ) (owed c fun _ => 0) W) ∗ lands 0 (nx 0 c) ∗ lands 1 (nx 1 c) ∗ row c (ch 0 0 c) (prod X Y c))
      ⊢ Gs X Y c fun _ => 0 := by
  unfold Gs RingG
  iintro ⟨HR, HO, H0, H1, Hrow⟩
  isplitl [HO]; · iexact HO
  ihave HN := (lands_strips c) $$ [H0 H1]; · isplitl [H0] <;> iassumption
  ihave Hrow := (Entails.of_eq (row_split c (ch 0 0 c) (prod X Y c))) $$ Hrow
  ihave H := (Entails.of_eq (bigSep_sep' Finset.univ (fun p : Strip => oPt c (ch 0 0 c) p.1 p.2 (prod X Y c))
    fun p => bigSep Finset.univ fun s : Fin 3 => kAny (nx p.1 c) s p.1 p.2).symm) $$ [Hrow HN]; · isplitl [Hrow] <;> iassumption
  ihave H := (Entails.of_eq (bigSep_sep' Finset.univ (fun p : Strip => iprop((bigSep Finset.univ fun h => Snd X Y p.1 p.2 c h 0) ∗ bigSep Finset.univ fun h => Rcv X Y p.1 p.2 c h 0))
    fun p => iprop(oPt c (ch 0 0 c) p.1 p.2 (prod X Y c) ∗ bigSep Finset.univ fun s : Fin 3 => kAny (nx p.1 c) s p.1 p.2)).symm) $$ [HR H]; · isplitl [HR] <;> iassumption
  iapply (show _ ⊢ (bigSep Finset.univ fun p : Strip => St X Y p.1 p.2 c 0 : sProp 𝕄) from bigSep_mono fun p _ => strip_start X Y p c)
  iexact H

/-- At the middle the other products come in, -/
theorem strip_prods (p : Strip) (c : Dev nD) :
    iprop(St X Y p.1 p.2 c 1 ∗ (oPt c (ch 0 1 c) p.1 p.2 (prod X Y c) ∗ (oPt c (ch 0 3 c) p.1 p.2 (prod X Y c) ∗ oPt c (ch 0 2 c) p.1 p.2 (prod X Y c))))
      ⊢ St X Y p.1 p.2 c 2 := by
  have h : ∀ d : Fin 2, ch 0 2 c = ch d 2 c ∧ (ch 0 1 c = ch d 1 c ∧ ch 0 3 c = ch d 3 c ∨ ch 0 1 c = ch d 3 c ∧ ch 0 3 c = ch d 1 c) := by
    revert c; decide
  obtain ⟨h2, h13⟩ := h p.1
  rw [h2]
  iintro ⟨HS, H1, H3, H2⟩
  iapply (St_prods X Y p.1 p.2 c)
  isplitl [HS]; · iexact HS
  rcases h13 with ⟨h1, h3⟩ | ⟨h1, h3⟩ <;> rw [h1, h3]
  · isplitl [H1]; · iexact H1
    isplitl [H2] <;> iassumption
  · isplitl [H3]; · iexact H3
    isplitl [H2] <;> iassumption

theorem Gs_prods (c : Dev nD) :
    iprop(Gs X Y c (fun _ => 1) ∗ row c (ch 0 1 c) (prod X Y c) ∗ row c (ch 0 3 c) (prod X Y c) ∗ row c (ch 0 2 c) (prod X Y c)) ⊢ Gs X Y c fun _ => 2 := by
  unfold Gs
  rw [owed_mid, row_split, row_split, row_split, ← bigSep_sep', ← bigSep_sep']
  iintro ⟨⟨HO, HS⟩, HR⟩
  isplitl [HO]; · iexact HO
  ihave H := (Entails.of_eq (bigSep_sep' Finset.univ (fun p : Strip => St X Y p.1 p.2 c 1)
    fun p => iprop(oPt c (ch 0 1 c) p.1 p.2 (prod X Y c) ∗ (oPt c (ch 0 3 c) p.1 p.2 (prod X Y c) ∗ oPt c (ch 0 2 c) p.1 p.2 (prod X Y c)))).symm) $$ [HS HR]
  · isplitl [HS] <;> iassumption
  iapply (show _ ⊢ (bigSep Finset.univ fun p : Strip => St X Y p.1 p.2 c 2 : sProp 𝕄) from bigSep_mono fun p _ => strip_prods X Y p c)
  iexact H

/-- and at the end the buffers are whole again. -/
theorem Gs_end (c : Dev nD) :
    Gs X Y c (fun _ => 22) ⊢ iprop((∃ W, owes (c : Thread nD τ) 0 W) ∗ zeros c
      ∗ (((c : Thread nD τ).loc cc0_stg2_0) ↦{fullShare} fin X Y) ∗ (((c : Thread nD τ).loc cc0_scratch0) ↦{fullShare} landed X Y c)) := by
  unfold Gs zeros
  rw [owed_end, oM_split, kM_split, ← bigSep_sep', ← bigSep_sep']
  iintro ⟨HO, HS⟩
  isplitl [HO]; · iexact HO
  iapply (show (bigSep Finset.univ fun p : Strip => St X Y p.1 p.2 c 22 : sProp 𝕄) ⊢ _ from bigSep_mono fun p _ => St_end X Y p.1 p.2 c)
  iexact HS

/-- What a device holds when the kernel starts, and when it ends. -/
def start (c : Dev nD) : sProp 𝕄 := iprop(BarG X Y c ∗ RingG X Y c ∗ levAts L lv)
def done (c : Dev nD) : sProp 𝕄 := iprop((((c : Thread nD τ).loc cc0_scratch0) ↦{fullShare} landed X Y c) ∗ zeros c ∗ semVal (barC c) 0)

theorem WP_deviceId (c : Dev nD) (k : Dev nD → Prog (TpuEff nD τ sig (Elt F) Λ₀ .tc) PUnit) (Q : PUnit → sProp 𝕄) :
    WP c (.op .deviceId k) Q = WP c (k c) Q := by
  unfold WP; rw [wp_deviceId]

/-- The body, from any contents of the buffers it writes: the result is the sum over the devices. -/
theorem sound_body (c : Dev nD) (Q : PUnit → sProp 𝕄) (h0 h1 h2 h3) :
    iprop((start X Y c ∗ (∃ f : Vec F S3x256x1024 .f32, (((c : Thread nD τ).loc cc0_scratch0) ↦{fullShare} f))
          ∗ (∃ W, owes (c : Thread nD τ) (O₀ c) W)
          ∗ (((c : Thread nD τ).loc cc0_stg0_0) ↦{fullShare} X c) ∗ (((c : Thread nD τ).loc cc0_stg1_0) ↦{fullShare} Y c)
          ∗ (∃ g : Vec F S1024x1024 .f32, (((c : Thread nD τ).loc cc0_stg2_0) ↦{fullShare} g)))
        ∗ (((done X Y c ∗ (∃ W, owes (c : Thread nD τ) 0 W)
          ∗ (((c : Thread nD τ).loc cc0_stg0_0) ↦{fullShare} X c) ∗ (((c : Thread nD τ).loc cc0_stg1_0) ↦{fullShare} Y c)
          ∗ (((c : Thread nD τ).loc cc0_stg2_0) ↦{fullShare} fin X Y)) -∗ Q ⟨⟩)))
      ⊢ WP c (cc0_body xM h0 wM h1 oM h2 kM h3 cc0_scratch1 cc0_scratch2 cc0_scratch3 cc0_scratch4) Q := by
  unfold start
  rw [body_flat, WP_deviceId]
  unfold flat
  iintro ⟨⟨⟨HB, HR, #Hlev⟩, ⟨%f, Hscr⟩, HO, Hx, Hw, ⟨%g, Hout⟩⟩, HK⟩
  ihave Hl := (lands_of c f) $$ Hscr
  icases Hl with ⟨Hl0, Hl1⟩
  iapply (wp_barrier X Y c)
  isplitl [HB]; · iexact HB
  isplitr; · iexact Hlev
  isplitl [Hl0]; · iexact Hl0
  isplitl [Hl1]; · iexact Hl1
  isplitl [HO]; · iexact HO
  iintro ⟨Hz, HO, Hl0, Hl1⟩
  ihave Hrows := (Entails.of_eq (oM_rows c g)) $$ Hout
  icases Hrows with ⟨R0, R1, R3, R2⟩
  iapply (wp_gemm X Y c (ch 0 0 c) _ _ _ _ (gemmOff_self c).1 (gemmOff_self c).2 _ _ g)
  isplitl [Hx]; · iexact Hx
  isplitl [Hw]; · iexact Hw
  isplitl [R0]; · iexact R0
  iintro ⟨Hx, Hw, R0⟩
  ihave HG := (Gs_start X Y c) $$ [HR HO Hl0 Hl1 R0]
  · isplitl [HR]; · iexact HR
    isplitl [HO]; · iexact HO
    isplitl [Hl0]; · iexact Hl0
    isplitl [Hl1] <;> iassumption
  iapply (wp_runAll X Y c _ acts0 (fun _ => 0) valid_acts0)
  isplitr; · iexact Hlev
  isplitl [HG]; · iexact HG
  rw [after_acts0]
  iintro HG
  iapply (wp_gemm X Y c (ch 0 1 c) _ _ _ _ (gemmOff_prev c).1 (gemmOff_prev c).2 _ _ g)
  isplitl [Hx]; · iexact Hx
  isplitl [Hw]; · iexact Hw
  isplitl [R1]; · iexact R1
  iintro ⟨Hx, Hw, R1⟩
  iapply (wp_gemm X Y c (ch 0 3 c) _ _ _ _ (gemmOff_next c).1 (gemmOff_next c).2 _ _ g)
  isplitl [Hx]; · iexact Hx
  isplitl [Hw]; · iexact Hw
  isplitl [R3]; · iexact R3
  iintro ⟨Hx, Hw, R3⟩
  iapply (wp_gemm X Y c (ch 0 2 c) _ _ _ _ (gemmOff_far c).1 (gemmOff_far c).2 _ _ g)
  isplitl [Hx]; · iexact Hx
  isplitl [Hw]; · iexact Hw
  isplitl [R2]; · iexact R2
  iintro ⟨Hx, Hw, R2⟩
  ihave HG := (Gs_prods X Y c) $$ [HG R1 R3 R2]
  · isplitl [HG]; · iexact HG
    isplitl [R1]; · iexact R1
    isplitl [R3] <;> iassumption
  iapply (wp_runAll X Y c _ acts1 (fun _ => 2) valid_acts1)
  isplitr; · iexact Hlev
  isplitl [HG]; · iexact HG
  rw [after_acts1]
  iintro HG
  ihave H := (Gs_end X Y c) $$ HG
  icases H with ⟨HO, Hzs, Hout, Hscr⟩
  rw [Prog.pure_eq_ret]; unfold WP; rw [wp_ret]; imodintro
  iapply HK
  unfold done
  isplitl [Hscr Hzs Hz]
  · isplitl [Hscr]; · iexact Hscr
    isplitl [Hzs] <;> iassumption
  isplitl [HO]; · iexact HO
  isplitl [Hx]; · iexact Hx
  isplitl [Hw] <;> iassumption

end Cert.KernelIdeal.Gen

end
-- ==== Proof.Launch.lean ====
module

public import proofs.«01_k».proof.Proof.Body

@[expose] public section

/-! # The launch of the ring

The cells' states and tokens at the start, dealt to the devices that use them, and the credit of what is owed. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x256 .f32) (Y : Dev nD → Vec F S256x1024 .f32)

/-- A hop of a strip, -/
abbrev Hop : Type := Strip × Fin 6
/-- the copy semaphores (send and receive of each hop), -/
abbrev osem (x : Hop × Fin 2) : SemLoc sig := .dma (sN x.2 x.1.2 x.1.1.1 x.1.1.2)
/-- and with the barrier semaphore. -/
abbrev Kind : Type := PUnit.{1} ⊕ (Hop × Fin 2)
abbrev csem : Kind → SemLoc sig
  | .inl _ => .reg barS
  | .inr x => osem x
abbrev kcell (x : Dev nD × Kind) : GSem nD τ sig := ((x.1 : Thread nD τ), csem x.2)

theorem osem_injective : Function.Injective osem := by
  rintro ⟨⟨⟨d, j⟩, h⟩, k⟩ ⟨⟨⟨d', j'⟩, h'⟩, k'⟩ e
  have e : sN k h d j = sN k' h' d' j' := by injection e
  have e1 : k = k' := by rw [← kOf_sN k h d j, e, kOf_sN]
  have e2 : h = h' := by rw [← hOf_sN k h d j, e, hOf_sN]
  have e3 : d = d' := by rw [← dOf_sN k h d j, e, dOf_sN]
  have e4 : j = j' := by rw [← jOf_sN k h d j, e, jOf_sN]
  rw [e1, e2, e3, e4]
theorem csem_injective : Function.Injective csem := by
  rintro (_ | x) (_ | y) e
  · rfl
  · cases e
  · cases e
  · exact congrArg Sum.inr (osem_injective e)
theorem kcell_injective : Function.Injective kcell := by
  rintro ⟨c, k⟩ ⟨c', k'⟩ e
  have e1 : c = c' := congrArg (fun g : GSem nD τ sig => g.1.1) e
  have e2 : k = k' := csem_injective (congrArg Prod.snd e)
  rw [e1, e2]
def ringCells : Finset (GSem nD τ sig) := Finset.univ.map ⟨kcell, kcell_injective⟩

/-- Two tokens of every cell, as minted. -/
abbrev tokOf (x : Dev nD × Kind × Fin 2) : GSem nD τ sig × ℕ × Fin 2 := (kcell (x.1, x.2.1), 0, x.2.2)
theorem tokOf_injective : Function.Injective tokOf := by
  rintro ⟨c, k, e⟩ ⟨c', k', e'⟩ h
  have h1 := kcell_injective (congrArg Prod.fst h)
  have h2 : e = e' := congrArg (fun x : GSem nD τ sig × ℕ × Fin 2 => x.2.2) h
  obtain ⟨ha, hb⟩ := Prod.ext_iff.1 h1
  dsimp only at ha hb
  rw [ha, hb, h2]
def ringToks : Finset (GSem nD τ sig × ℕ × Fin 2) := Finset.univ.map ⟨tokOf, tokOf_injective⟩

def u₀ : UU := (initOf (Pipeline.cells cfgs cellOf_inj) (Pipeline.launchToks cfgs cellOf_inj), initOf ringCells ringToks)

/-- What the launch element deals a device: its own cells' states, turns and tokens. -/
def G (c : Dev nD) : sProp 𝕄 :=
  iprop((bigSep Finset.univ fun k : Kind => roundState ER (Rd X Y) (kcell (c, k)) 0)
    ∗ (bigSep Finset.univ fun k : Kind => atPos ER (kcell (c, k)) 0 ∅ 0)
    ∗ (bigSep Finset.univ fun k : Kind => reached ER (kcell (c, k)) 0)
    ∗ (bigSep Finset.univ fun x : Kind × Fin 2 => dutyTok ER (kcell (c, x.1)) 0 x.2))

theorem fund_ring : BI.own (ER (initOf ringCells ringToks)) ⊢ (|==> bigSep Finset.univ (G X Y) : sProp 𝕄) := by
  have hX (Φ : GSem nD τ sig → sProp 𝕄) : bigSep ringCells Φ = bigSep Finset.univ fun c : Dev nD => bigSep Finset.univ fun k : Kind => Φ (kcell (c, k)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun x : Kind × Fin 2 => dutyTok ER (kcell (c, x.1)) 0 x.2 := by
    unfold ringToks; rw [bigSep_map, bigSep_univ_prod]; rfl
  iintro HX
  imod (Rounds.fund ER (Rd X Y) ringCells ringToks) $$ HX with ⟨Hst, Hr, Hat, Htok⟩
  imodintro
  ihave Hst' := (Entails.of_eq (hX fun g => roundState ER (Rd X Y) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

omit [FloatOps F] in
theorem bigSep_kind (Φ : Kind → sProp 𝕄) : bigSep Finset.univ Φ = iprop(Φ (.inl ⟨⟩) ∗ bigSep Finset.univ fun x => Φ (.inr x)) := by
  rw [BI.bigSep_univ_sum, BI.bigSep_univ_of_subsingleton PUnit.unit]; rfl

omit [FloatOps F] in
theorem bigSep_pair (Φ : Fin 2 → sProp 𝕄) : bigSep Finset.univ Φ = iprop(Φ 0 ∗ Φ 1) := bigSep_fin_two Φ
theorem Snd_zero (d j) (c : Dev nD) (h) : Snd X Y d j c h 0 =
    iprop((∃ κ : ℕ, cellInv ER (Rd X Y) κ (cell 0 h d j c)) ∗ (∃ κ : ℕ, cellInv ER (Rd X Y) κ (cell 1 h d j (nx d c)))
      ∗ dutyTok ER (cell 0 h d j c) 0 0 ∗ reached ER (cell 0 h d j c) 0
      ∗ dutyTok ER (cell 1 h d j (nx d c)) 0 0 ∗ reached ER (cell 1 h d j (nx d c)) 0 ∗ atPos ER (cell 0 h d j c) 0 ∅ 0) := rfl
theorem Rcv_zero (d j) (c : Dev nD) (h) : Rcv X Y d j c h 0 =
    iprop((∃ κ : ℕ, cellInv ER (Rd X Y) κ (cell 1 h d j c)) ∗ cred (tallyAt (cell 1 h d j c) () N) ∗ atPos ER (cell 1 h d j c) 0 ∅ 0) := rfl

/-! ## The semaphores -/

abbrev ownS (c : Dev nD) : sProp 𝕄 := Pipeline.ownSems0 (Ix := Unit) (Name := ℕ) (U := UU) (Lvl := ℕ) (Val := Elt F) (τ := τ) osem c

omit [FloatOps F] in
theorem unscopedSems0_eq (c : Dev nD) : (unscopedSems0 c : sProp 𝕄) = semVal (barC c) 0 := by
  unfold unscopedSems0; rw [bigSep_eq_bigSepL_of_eq [SemLoc.reg barS] (by decide +kernel) (by decide)]; rfl
omit [FloatOps F] in
theorem sems0_eq (c : Dev nD) : iprop(ownS (F := F) c ∗ unscopedSems0 c) ⊢ (bigSep Finset.univ fun k : Kind => semVal (kcell (c, k)) 0 : sProp 𝕄) := by
  rw [unscopedSems0_eq, bigSep_kind]
  unfold ownS Pipeline.ownSems0
  iintro ⟨HS, HB⟩
  isplitl [HB] <;> iassumption
/-- The closed cells are the copy semaphores at zero. -/
theorem zeros_eq (c : Dev nD) : zeros (F := F) c ⊢ ownS c := by
  unfold zeros ownS Pipeline.ownSems0
  rw [bigSep_univ_prod (fun x : Hop × Fin 2 => (semVal ((c : Thread nD τ), osem x) 0 : sProp 𝕄)),
    bigSep_univ_prod (fun x : Hop => bigSep Finset.univ fun k : Fin 2 => (semVal ((c : Thread nD τ), osem (x, k)) 0 : sProp 𝕄))]
  refine bigSep_mono fun p _ => ?_
  rw [← bigSep_sep']
  exact bigSep_mono fun h _ => Entails.of_eq (bigSep_pair fun k : Fin 2 => (semVal ((c : Thread nD τ), osem ((p, h), k)) 0 : sProp 𝕄)).symm

/-! ## The cells' invariants, and the tokens dealt -/

/-- The devices whose tokens device `c` gets: each barrier token to the neighbour that gives it, each receive token to the
    device that sends there. -/
def nxE (d : Fin 2) : Dev nD ≃ Dev nD := ⟨nx d, pv d, pv_nx d, nx_pv d⟩
def deal : Kind × Fin 2 → Dev nD ≃ Dev nD
  | (.inl _, e) => nxE (1 - e)
  | (.inr (x, k), _) => if k = 0 then Equiv.refl _ else nxE x.1.1

omit [FloatOps F] in
theorem bigSep_deal {T : Type} [Fintype T] [DecidableEq T] (σ : T → Dev nD ≃ Dev nD) (Φ : Dev nD → T → sProp 𝕄) :
    (bigSep Finset.univ fun c : Dev nD => bigSep Finset.univ fun x : T => Φ c x)
      = bigSep Finset.univ fun c : Dev nD => bigSep Finset.univ fun x : T => Φ (σ x c) x := by
  let e : Dev nD × T ≃ Dev nD × T := ⟨fun y => (σ y.2 y.1, y.2), fun y => ((σ y.2).symm y.1, y.2), fun y => by simp, fun y => by simp⟩
  rw [← bigSep_univ_prod (fun y : Dev nD × T => Φ y.1 y.2), bigSep_univ_equiv e, bigSep_univ_prod]; rfl

/-- What every device knows: each cell's invariant and that its round has begun. -/
def records : sProp 𝕄 := iprop((bigSep Finset.univ fun x : Dev nD × Kind => iprop(∃ κ : ℕ, cellInv ER (Rd X Y) κ (kcell x)))
    ∗ bigSep Finset.univ fun x : Dev nD × Kind => reached ER (kcell x) 0)
instance : BI.Persistent (records X Y) := by unfold records; infer_instance

theorem inv_at (x : Dev nD × Kind) : records X Y ⊢ iprop(∃ κ : ℕ, cellInv ER (Rd X Y) κ (kcell x)) := by
  have h : (bigSep Finset.univ fun x : Dev nD × Kind => (iprop(∃ κ : ℕ, cellInv ER (Rd X Y) κ (kcell x)) : sProp 𝕄)) ⊢ _ := bigSep_elim (Finset.mem_univ x)
  unfold records; iintro ⟨H, -⟩; iapply h; iexact H
theorem reached_at (x : Dev nD × Kind) : records X Y ⊢ reached ER (kcell x) 0 := by
  have h : (bigSep Finset.univ fun x : Dev nD × Kind => (reached ER (kcell x) 0 : sProp 𝕄)) ⊢ _ := bigSep_elim (Finset.mem_univ x)
  unfold records; iintro ⟨-, H⟩; iapply h; iexact H

/-- What is a device's alone: its turns and the tokens it spends. -/
def linear (c : Dev nD) : sProp 𝕄 :=
  iprop((bigSep Finset.univ fun k : Kind => atPos ER (kcell (c, k)) 0 ∅ 0)
    ∗ (bigSep Finset.univ fun x : Kind × Fin 2 => dutyTok ER (kcell (deal x c, x.1)) 0 x.2))

/-- A device's part without the credit. -/
def BarG' (c : Dev nD) : sProp 𝕄 :=
  iprop((∃ κ, cellInv ER (Rd X Y) κ (barC c)) ∗ (∃ κ, cellInv ER (Rd X Y) κ (barC (nx 0 c))) ∗ (∃ κ, cellInv ER (Rd X Y) κ (barC (nx 1 c)))
    ∗ atPos ER (barC c) 0 ∅ 0
    ∗ dutyTok ER (barC (nx 1 c)) 0 0 ∗ reached ER (barC (nx 1 c)) 0 ∗ dutyTok ER (barC (nx 0 c)) 0 1 ∗ reached ER (barC (nx 0 c)) 0)
def Rcv' (c : Dev nD) (x : Hop) : sProp 𝕄 :=
  iprop((∃ κ : ℕ, cellInv ER (Rd X Y) κ (cell 1 x.2 x.1.1 x.1.2 c)) ∗ atPos ER (cell 1 x.2 x.1.1 x.1.2 c) 0 ∅ 0)
def G' (c : Dev nD) : sProp 𝕄 :=
  iprop(BarG' X Y c ∗ bigSep Finset.univ fun x : Hop => iprop(Snd X Y x.1.1 x.1.2 c x.2 0 ∗ Rcv' X Y c x))

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine BIBase.Entails.trans ?_ ((Entails.of_eq (bigSep_sep' S (fun _ => R) Φ).symm).trans (bigSep_mono h))
  iintro ⟨#HR, H⟩
  isplitr
  · iapply (BI.bigSep_of_persistent S R); iexact HR
  · iexact H

/-- One hop's part. -/
theorem hop_intro (c : Dev nD) (x : Hop) :
    iprop(records X Y ∗ ((atPos ER (cell 0 x.2 x.1.1 x.1.2 c) 0 ∅ 0 ∗ atPos ER (cell 1 x.2 x.1.1 x.1.2 c) 0 ∅ 0)
        ∗ (dutyTok ER (cell 0 x.2 x.1.1 x.1.2 c) 0 0 ∗ dutyTok ER (cell 1 x.2 x.1.1 x.1.2 (nx x.1.1 c)) 0 0)))
      ⊢ iprop(Snd X Y x.1.1 x.1.2 c x.2 0 ∗ Rcv' X Y c x) := by
  rw [Snd_zero]; unfold Rcv'
  iintro ⟨#HR, ⟨Ha, Hb⟩, Ht, Hu⟩
  isplitr [Hb]
  · isplitr; · iapply (inv_at X Y (c, .inr (x, 0))); iexact HR
    isplitr; · iapply (inv_at X Y (nx x.1.1 c, .inr (x, 1))); iexact HR
    isplitl [Ht]; · iexact Ht
    isplitr; · iapply (reached_at X Y (c, .inr (x, 0))); iexact HR
    isplitl [Hu]; · iexact Hu
    isplitr; · iapply (reached_at X Y (nx x.1.1 c, .inr (x, 1))); iexact HR
    iexact Ha
  · isplitr; · iapply (inv_at X Y (c, .inr (x, 1))); iexact HR
    iexact Hb

theorem ghost_intro (c : Dev nD) : iprop(records X Y ∗ linear c) ⊢ G' X Y c := by
  have h1 : (bigSep Finset.univ fun x : Kind × Fin 2 => (dutyTok ER (kcell (deal x c, x.1)) 0 x.2 : sProp 𝕄))
      ⊢ iprop((dutyTok ER (barC (nx 1 c)) 0 0 ∗ dutyTok ER (barC (nx 0 c)) 0 1)
        ∗ bigSep Finset.univ fun x : Hop => iprop(dutyTok ER (cell 0 x.2 x.1.1 x.1.2 c) 0 0 ∗ dutyTok ER (cell 1 x.2 x.1.1 x.1.2 (nx x.1.1 c)) 0 0)) := by
    rw [bigSep_univ_prod, bigSep_kind, bigSep_pair]
    iintro ⟨⟨H0, H1⟩, H⟩
    isplitl [H0 H1]
    · isplitl [H0]; · iexact H0
      iexact H1
    · have h3 : (bigSep Finset.univ fun x : Hop × Fin 2 => bigSep Finset.univ fun e : Fin 2 => (dutyTok ER (kcell (deal (.inr x, e) c, .inr x)) 0 e : sProp 𝕄))
          ⊢ bigSep Finset.univ fun x : Hop => iprop(dutyTok ER (cell 0 x.2 x.1.1 x.1.2 c) 0 0 ∗ dutyTok ER (cell 1 x.2 x.1.1 x.1.2 (nx x.1.1 c)) 0 0) := by
        rw [bigSep_univ_prod]
        refine bigSep_mono fun x _ => ?_
        rw [bigSep_pair, bigSep_pair, bigSep_pair]
        show (_ : sProp 𝕄) ⊢ iprop(dutyTok ER (cell 0 x.2 x.1.1 x.1.2 c) 0 0 ∗ dutyTok ER (cell 1 x.2 x.1.1 x.1.2 (nx x.1.1 c)) 0 0)
        iintro ⟨⟨H0, -⟩, H1, -⟩
        isplitl [H0]; · iexact H0
        iexact H1
      iapply h3; iexact H
  have h2 : (bigSep Finset.univ fun k : Kind => (atPos ER (kcell (c, k)) 0 ∅ 0 : sProp 𝕄))
      ⊢ iprop(atPos ER (barC c) 0 ∅ 0 ∗ bigSep Finset.univ fun x : Hop => iprop(atPos ER (cell 0 x.2 x.1.1 x.1.2 c) 0 ∅ 0 ∗ atPos ER (cell 1 x.2 x.1.1 x.1.2 c) 0 ∅ 0)) := by
    rw [bigSep_kind, bigSep_univ_prod]
    exact BIClass.sep_mono (Entails.refl _) (bigSep_mono fun x _ => Entails.of_eq (bigSep_pair _))
  unfold linear G' BarG'
  iintro ⟨#HR, Ha, Ht⟩
  ihave Hb := h2 $$ Ha
  ihave Hu := h1 $$ Ht
  icases Hb with ⟨HB, Ha⟩
  icases Hu with ⟨⟨H0, H1⟩, Ht⟩
  isplitl [HB H0 H1]
  · isplitr; · iapply (inv_at X Y (c, .inl ⟨⟩)); iexact HR
    isplitr; · iapply (inv_at X Y (nx 0 c, .inl ⟨⟩)); iexact HR
    isplitr; · iapply (inv_at X Y (nx 1 c, .inl ⟨⟩)); iexact HR
    isplitl [HB]; · iexact HB
    isplitl [H0]; · iexact H0
    isplitr; · iapply (reached_at X Y (nx 1 c, .inl ⟨⟩)); iexact HR
    isplitl [H1]; · iexact H1
    iapply (reached_at X Y (nx 0 c, .inl ⟨⟩)); iexact HR
  · iapply (bigSep_with_persistent (R := records X Y) fun x _ => hop_intro X Y c x)
    isplitr; · iexact HR
    iapply (Entails.of_eq (bigSep_sep' Finset.univ _ _).symm)
    isplitl [Ha] <;> iassumption

/-- The invariants made. -/
theorem core_alloc (c : Dev nD) :
    iprop(ownS c ∗ unscopedSems0 c ∗ G X Y c)
      ⊢ |={Set.univ}=> iprop((bigSep Finset.univ fun k : Kind => iprop(∃ κ : ℕ, cellInv ER (Rd X Y) κ (kcell (c, k))))
          ∗ (bigSep Finset.univ fun k : Kind => reached ER (kcell (c, k)) 0)
          ∗ (bigSep Finset.univ fun k : Kind => atPos ER (kcell (c, k)) 0 ∅ 0)
          ∗ (bigSep Finset.univ fun x : Kind × Fin 2 => dutyTok ER (kcell (c, x.1)) 0 x.2)) := by
  have hal : iprop((bigSep Finset.univ fun k : Kind => semVal (kcell (c, k)) 0) ∗ bigSep Finset.univ fun k : Kind => roundState ER (Rd X Y) (kcell (c, k)) 0)
      ⊢ (|={Set.univ}=> bigSep Finset.univ fun k => iprop(∃ κ : ℕ, cellInv ER (Rd X Y) κ (kcell (c, k))) : sProp 𝕄) := by
    rw [← bigSep_sep']
    exact (bigSep_mono fun k _ => (Rounds.body_intro ER (Rd X Y) (kcell (c, k))).trans inv_alloc).trans (bigSep_fupd _ _)
  unfold G
  iintro ⟨Hos, Hus, Hst, Hat, Hr, Htok⟩
  ihave Hv := (sems0_eq (F := F) c) $$ [Hos Hus]
  · isplitl [Hos] <;> iassumption
  imod hal $$ [Hv Hst] with Hinv
  · isplitl [Hv] <;> iassumption
  imodintro
  isplitl [Hinv]; · iexact Hinv
  isplitl [Hr]; · iexact Hr
  isplitl [Hat] <;> iassumption

theorem regroup :
    (bigSep Finset.univ fun c : Dev nD => iprop((bigSep Finset.univ fun k : Kind => iprop(∃ κ : ℕ, cellInv ER (Rd X Y) κ (kcell (c, k))))
          ∗ (bigSep Finset.univ fun k : Kind => reached ER (kcell (c, k)) 0)
          ∗ (bigSep Finset.univ fun k : Kind => atPos ER (kcell (c, k)) 0 ∅ 0)
          ∗ (bigSep Finset.univ fun x : Kind × Fin 2 => dutyTok ER (kcell (c, x.1)) 0 x.2)) : sProp 𝕄)
      ⊢ bigSep Finset.univ (G' X Y) := by
  rw [bigSep_sep', bigSep_sep', bigSep_sep', ← bigSep_univ_prod (fun x : Dev nD × Kind => iprop(∃ κ : ℕ, cellInv ER (Rd X Y) κ (kcell x))),
    ← bigSep_univ_prod (fun x : Dev nD × Kind => (reached ER (kcell x) 0 : sProp 𝕄)),
    bigSep_deal deal (fun c x => (dutyTok ER (kcell (c, x.1)) 0 x.2 : sProp 𝕄))]
  iintro ⟨#HI, #HR, Hat, Htok⟩
  iapply (bigSep_with_persistent (R := records X Y) fun c _ => ghost_intro X Y c)
  isplitr
  · unfold records; isplitl; · iexact HI
    iexact HR
  · unfold linear
    iapply (Entails.of_eq (bigSep_sep' Finset.univ _ _).symm)
    isplitl [Hat] <;> iassumption

/-- All devices' semaphores and launch elements become their parts of the ring. -/
theorem glob : (bigSep Finset.univ fun c => iprop(ownS c ∗ unscopedSems0 c ∗ G X Y c) : sProp 𝕄) ⊢ |={Set.univ}=> bigSep Finset.univ (G' X Y) :=
  ((bigSep_mono fun c _ => core_alloc X Y c).trans (bigSep_fupd _ _)).trans (BI.fupd_mono (regroup X Y))

/-! ## The credit -/

theorem nx_eq_iff {d : Fin 2} {a b : Dev nD} : nx d a = b ↔ a = pv d b :=
  ⟨fun h => by rw [← h, pv_nx], fun h => by rw [h, nx_pv]⟩
theorem bar_eq_iff {a b : Dev nD} : barC a = barC b ↔ a = b := ⟨fun h => congrArg (fun g : GSem nD τ sig => g.1.1) h, fun h => h ▸ rfl⟩
theorem cell_eq_iff {a b : Dev nD} {x y : Hop} : cell 1 x.2 x.1.1 x.1.2 a = cell 1 y.2 y.1.1 y.1.2 b ↔ a = b ∧ x = y := by
  constructor
  · intro h
    have := kcell_injective (a₁ := (a, .inr (x, 1))) (a₂ := (b, .inr (y, 1))) h
    simpa using this
  · rintro ⟨rfl, rfl⟩; rfl

theorem owed_at (d : Dev nD) (g : GSem nD τ sig) :
    owed d (fun _ => 0) g () = ∑ x : Hop, if g = cell 1 x.2 x.1.1 x.1.2 (nx x.1.1 d) then N else 0 := by
  unfold owed
  rw [Finset.sum_apply, Finsupp.finset_sum_apply]
  refine Finset.sum_congr rfl fun x _ => ?_
  rw [if_pos (Nat.zero_le _), tallyAt_apply]
  exact if_congr (and_iff_left rfl) rfl rfl

theorem bar_none (d c : Dev nD) : (∑ x : Hop, if barC c = cell 1 x.2 x.1.1 x.1.2 (nx x.1.1 d) then N else 0) = 0 :=
  Finset.sum_eq_zero fun x _ => if_neg fun h => by have := congrArg Prod.snd h; cases this

theorem owed_bar (d c : Dev nD) : O₀ d (barC c) () = (if d = pv 0 c then 1 else 0) + (if d = pv 1 c then 1 else 0) := by
  unfold O₀
  rw [Pi.add_apply, Finsupp.add_apply, Pi.add_apply, Finsupp.add_apply, owed_at, tallyAt_apply, tallyAt_apply,
    bar_none, Nat.zero_add]
  congr 1 <;> exact if_congr ((and_iff_left rfl).trans (bar_eq_iff.trans (eq_comm.trans nx_eq_iff))) rfl rfl

theorem owed_recv (d c : Dev nD) (y : Hop) : O₀ d (cell 1 y.2 y.1.1 y.1.2 c) () = if d = pv y.1.1 c then N else 0 := by
  unfold O₀
  rw [Pi.add_apply, Finsupp.add_apply, Pi.add_apply, Finsupp.add_apply, owed_at, tallyAt_apply, tallyAt_apply,
    if_neg (fun h => by have := congrArg Prod.snd h.1; cases this), if_neg (fun h => by have := congrArg Prod.snd h.1; cases this), Nat.add_zero,
    Finset.sum_eq_single y]
  · exact if_congr (cell_eq_iff.trans ((and_iff_left rfl).trans (eq_comm.trans nx_eq_iff))) rfl rfl
  · exact fun x _ hx => if_neg fun h => hx (cell_eq_iff.1 h).2.symm
  · exact fun h => absurd (Finset.mem_univ y) h

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pv 0 c) fun _ => 1, Finset.sum_ite_eq' Finset.univ (pv 1 c) fun _ => 1, if_pos (Finset.mem_univ _), if_pos (Finset.mem_univ _)]
theorem launch_recv (c : Dev nD) (y : Hop) :
    tallyOn (cell 1 y.2 y.1.1 y.1.2 c) (launchCredit (Pipeline.owing O₀) 0 (cell 1 y.2 y.1.1 y.1.2 c))
      = (tallyAt (cell 1 y.2 y.1.1 y.1.2 c) () N : CellTallies nD τ sig Unit) := by
  unfold tallyAt; refine congrArg _ (Finsupp.ext fun u => ?_); cases u
  rw [Pipeline.launchCredit_owing, Finsupp.single_eq_same, Finset.sum_congr rfl fun d _ => owed_recv d c y, Finset.sum_ite_eq' Finset.univ (pv y.1.1 c) fun _ => N,
    if_pos (Finset.mem_univ _)]

omit [FloatOps F] in
theorem creds (c : Dev nD) :
    (Pipeline.launchCred O₀ c : sProp 𝕄)
      ⊢ iprop(cred (tallyAt (barC c) () 2) ∗ bigSep Finset.univ fun x : Hop => cred (tallyAt (cell 1 x.2 x.1.1 x.1.2 c) () N)) := by
  have hi : Function.Injective fun k : PUnit.{1} ⊕ Hop => csem (k.map id fun x => (x, 1)) := by
    refine csem_injective.comp (Sum.map_injective.2 ⟨Function.injective_id, fun a b h => congrArg Prod.fst h⟩)
  unfold Pipeline.launchCred
  refine (BI.bigSep_subset (Finset.subset_univ (Finset.univ.map ⟨_, hi⟩))).trans ?_
  rw [bigSep_map, BI.bigSep_univ_sum, BI.bigSep_univ_of_subsingleton PUnit.unit]
  refine BIClass.sep_mono (Entails.of_eq (congrArg cred (launch_bar c))) (bigSep_mono fun x _ => Entails.of_eq (congrArg cred (launch_recv c x)))

/-- With the credit a device can start. -/
theorem ring_start (c : Dev nD) : iprop(G' X Y c ∗ Pipeline.launchCred O₀ c ∗ levAts L lv) ⊢ start X Y c := by
  have hR : iprop((bigSep Finset.univ fun x : Hop => iprop(Snd X Y x.1.1 x.1.2 c x.2 0 ∗ Rcv' X Y c x))
      ∗ bigSep Finset.univ fun x : Hop => cred (tallyAt (cell 1 x.2 x.1.1 x.1.2 c) () N)) ⊢ RingG X Y c := by
    unfold RingG
    rw [← bigSep_sep', bigSep_univ_prod]
    refine bigSep_mono fun p _ => ?_
    rw [← bigSep_sep']
    refine bigSep_mono fun h _ => ?_
    rw [Rcv_zero]; unfold Rcv'
    show (_ : sProp 𝕄) ⊢ _
    iintro ⟨⟨HS, HI, Ha⟩, Hc⟩
    isplitl [HS]; · iexact HS
    isplitl [HI]; · iexact HI
    isplitl [Hc] <;> iassumption
  unfold G' BarG' start BarG
  iintro ⟨⟨⟨H1, H2, H3, H4, H5, H6, H7, H8⟩, HG⟩, Hcr, Hlev⟩
  ihave Hc := (creds (F := F) c) $$ Hcr
  icases Hc with ⟨Hb, Hc⟩
  isplitl [H1 H2 H3 H4 H5 H6 H7 H8 Hb]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8] <;> iassumption
  isplitl [HG Hc]
  · iapply hR; isplitl [HG] <;> iassumption
  iexact Hlev

end Cert.KernelIdeal.Gen

end
-- ==== Proof.Run.lean ====
module

public import proofs.«01_k».proof.Proof.Launch
public import proofs.«01_k».proof.Proof.Gen.KernelIdeal.Points
public import Idealize.ShloMosaic.Lib.Pipeline.CollectiveSegs

@[expose] public section

/-! # The run

The whole program on four devices, for any float values: it ends with the whole sum in every device's result, the arguments as they were and every counter at zero. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The staged arguments of a device. -/
def xs (c : Dev nD) : Vec F S1024x256 .f32 := (win0_0.blk (0 : Fin 1)).view.read (Elt F) (m ((c : Thread nD τ).loc main_arg0))
def ws (c : Dev nD) : Vec F S256x1024 .f32 := (win0_1.blk (0 : Fin 1)).view.read (Elt F) (m ((c : Thread nD τ).loc main_arg1))

/-- What each window holds and each device owes before and after the body. -/
def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => ws m c
    | ⟨2, _⟩ => fin (xs m) (ws m)
  Φ t := match t with
    | ⟨0, _⟩ => iprop(start (xs m) (ws m) c ∗ (∃ f : Vec F S3x256x1024 .f32, (((c : Thread nD τ).loc cc0_scratch0) ↦{fullShare} f)))
    | ⟨_ + 1, _⟩ => done (xs m) (ws m) c
  q _ := fullShare
  owed t := match t with
    | ⟨0, _⟩ => O₀ c
    | ⟨_ + 1, _⟩ => 0

omit [FloatOps F] in
theorem owns_whole_eq (c : Dev nD) (b : Ref sig .tc) (A : b.ty.Contents (Elt F)) :
    (owns (Ix := Unit) (Name := ℕ) (U := UU) (Lvl := ℕ) (c : Thread nD τ) (Memref.whole b) fullShare A : sProp 𝕄)
      = iprop(∃ f : Buf (Elt F) (((c : Dev nD) : Thread nD τ).loc b), ⌜f = A⌝ ∗ (((c : Thread nD τ).loc b) ↦{fullShare} f)) := by
  unfold owns; simp only [Memref.view_whole, View.read_whole, View.set_whole]

abbrev stg (c : Dev nD) (b : Ref sig .tc) (A : b.ty.Contents (Elt F)) : sProp 𝕄 :=
  iprop(∃ f : Buf (Elt F) (((c : Dev nD) : Thread nD τ).loc b), ⌜f = A⌝ ∗ (((c : Thread nD τ).loc b) ↦{fullShare} f))

def bodyPre (c : Dev nD) : sProp 𝕄 :=
  iprop((start (xs m) (ws m) c ∗ (∃ f : Vec F S3x256x1024 .f32, (((c : Thread nD τ).loc cc0_scratch0) ↦{fullShare} f)))
    ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost (c : Dev nD) : sProp 𝕄 :=
  iprop(done (xs m) (ws m) c ∗ (dats m 0 c).owesAt () t0_0.succ
    ∗ stg c cc0_stg0_0 (xs m c) ∗ stg c cc0_stg1_0 (ws m c) ∗ stg c cc0_stg2_0 (fin (xs m) (ws m)))

theorem before_0 (c : Dev nD) (d) : (dats m 0 c).before (0 : Fin 3) t0_0 d = xs m c := by
  unfold Dat.before; rw [if_pos (fetch0_0 t0_0)]; rfl
theorem before_1 (c : Dev nD) (d) : (dats m 0 c).before (1 : Fin 3) t0_0 d = ws m c := by
  unfold Dat.before; rw [if_pos (fetch0_1 t0_0)]; rfl

theorem body_run (c : Dev nD) (h0 h1 h2 h3) :
    bodyPre m c ⊢ WP c (cc0_body xM h0 wM h1 oM h2 kM h3 cc0_scratch1 cc0_scratch2 cc0_scratch3 cc0_scratch4) fun _ => bodyPost m c := by
  unfold bodyPre bodyPost
  simp only [before_0, before_1]
  iintro ⟨Hs, Ho, ⟨%d0, %f0, %e0, Hx⟩, ⟨%d1, %f1, %e1, Hw⟩, ⟨%d2, %f2, %e2, Hout⟩⟩
  subst e0 e1
  iapply (sound_body (xs m) (ws m) c)
  unfold Dat.owesAt Pipeline.owesWithin
  rw [show (dats m 0 c).owed t0_0.castSucc = O₀ c from rfl, show (dats m 0 c).owed t0_0.succ = 0 from rfl]
  icases Ho with ⟨%W, %hW, HO⟩
  isplitl [Hs HO Hx Hw Hout]
  · icases Hs with ⟨Hs, Hscr⟩
    isplitl [Hs]; · iexact Hs
    isplitl [Hscr]; · iexact Hscr
    isplitl [HO]; · iexists W; iexact HO
    isplitl [Hx]; · iexact Hx
    isplitl [Hw]; · iexact Hw
    iexists f2; iexact Hout
  · iintro ⟨Hd, ⟨%W, HO⟩, Hx, Hw, Hout⟩
    isplitl [Hd]; · iexact Hd
    isplitl [HO]
    · iexists W
      isplitr; · ipureintro; exact fun _ _ => Or.inl trivial
      iexact HO
    isplitl [Hx]
    · iexists _; isplitr; · (ipureintro; rfl)
      iexact Hx
    isplitl [Hw]
    · iexists _; isplitr; · (ipureintro; rfl)
      iexact Hw
    iexists _; isplitr; · (ipureintro; rfl)
    iexact Hout

set_option maxRecDepth 40000 in
/-- The body's obligation on every device. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact body_run m c _ _ _ _

/-! ## The launch -/

theorem ownSemFacts : Pipeline.OwnSemFacts cfg0.spec osem :=
  ⟨fun k => by revert k; decide +kernel, osem_injective, fun k w s h => by
    have h1 : (sN k.2 k.1.2 k.1.1.1 k.1.1.2) = (cfg0.spec w).sem s := by injection h
    have h2 := three_le_sN k.2 k.1.2 k.1.1.1 k.1.1.2
    rw [h1] at h2
    revert h2
    fin_cases w <;> fin_cases s <;> decide⟩

theorem share_eq (c : Dev nD) (w : Fin cfg0.W) : (dats m 0 c).share w = fullShare := by unfold Dat.share; split <;> rfl

theorem add_pos_cases (A B : CellTallies nD τ sig Unit) {g : GSem nD τ sig} {u : Unit} (h : 0 < (A + B) g u) : 0 < A g u ∨ 0 < B g u := by
  rw [Pi.add_apply, Finsupp.add_apply] at h
  omega

theorem tally_pos {g g' : GSem nD τ sig} {u : Unit} {n : ℕ} (h : 0 < tallyAt g' () n g u) : g = g' := by
  rw [tallyAt_apply] at h
  by_contra hn
  rw [if_neg fun e => hn e.1] at h
  exact Nat.lt_irrefl 0 h

/-- What a device owes at the start: the arrivals of its copies and a unit to each neighbour. -/
theorem O₀_pos {c : Dev nD} {g : GSem nD τ sig} {u : Unit} (h : 0 < O₀ c g u) :
    (∃ x : Hop, g = cell 1 x.2 x.1.1 x.1.2 (nx x.1.1 c)) ∨ g = barC (nx 0 c) ∨ g = barC (nx 1 c) := by
  rcases add_pos_cases _ _ h with h | h
  · rcases add_pos_cases _ _ h with h | h
    · obtain ⟨x, -, hx⟩ := owed_pos h
      exact Or.inl ⟨x, hx⟩
    · exact Or.inr (Or.inl (tally_pos h))
  · exact Or.inr (Or.inr (tally_pos h))

omit [FloatOps F] in
/-- The staging copies' waits are below everything owed. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨x, rfl⟩ | rfl | rfl <;> exact Finset.mem_singleton_self _)
      (fun p hp => by
        rw [Finset.mem_singleton.mp hp]
        show (if 3 ≤ q.val ∧ kOf q = 1 then 2 + (hOf q).val else 0) ≤ 0
        rw [if_neg fun h => absurd h.1 (Nat.not_le.2 hq)])
      (fun g u hg => by
        rcases O₀_pos hg with ⟨x, rfl⟩ | rfl | rfl
        · rw [lv_recv]; omega
        · exact Nat.one_pos
        · exact Nat.one_pos)
  · rw [MayWait_zero]; iintro -; iempintro

omit [FloatOps F] in
theorem waits [FloatOps F] (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xs m) (ws m) c)
      ⊢ |={Set.univ}=> iprop(start (xs m) (ws m) c ∗ emp) := by
  iintro ⟨-, Hlev, Hcr, -, HG⟩
  imodintro
  isplitl
  · iapply (ring_start (xs m) (ws m) c)
    isplitl [HG]; · iexact HG
    isplitl [Hcr] <;> iassumption
  · iempintro

theorem phi0_intro (c : Dev nD) :
    iprop(start (xs m) (ws m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start (xs m) (ws m) c ∗ (∃ f : Vec F S3x256x1024 .f32, (((c : Thread nD τ).loc cc0_scratch0) ↦{fullShare} f))) from rfl, scopedRest0_eq]
  iintro ⟨Hs, -, Hr⟩
  isplitl [Hs] <;> iassumption

theorem phi1_exit (c : Dev nD) :
    (dats m 0 c).Φ (Fin.last cfg0.N) ⊢ iprop(unscopedSems0 c ∗ ownS c ∗ Pipeline.scopedRest cfg0.spec c) := by
  rw [show (dats m 0 c).Φ (Fin.last cfg0.N) = done (xs m) (ws m) c from rfl, scopedRest0_eq, unscopedSems0_eq]
  unfold done
  iintro ⟨Hr, Hz, HB⟩
  isplitl [HB]; · iexact HB
  isplitl [Hz]; · iapply (zeros_eq c); iexact Hz
  iexists _; iexact Hr

/-! ## The run -/

def finalA (c : Dev nD) (w : Fin cfg0.W) : Buf (Elt F) ((cfg0.win w).arr.view.loc (c : Thread nD τ)) := (dats m 0 c).arrAt w cfg0.N

set_option maxRecDepth 40000 in
/-- From any memory with zero counters, every weakly fair execution on the four devices ends, with each array at its computed
    contents and every counter at zero. -/
theorem run_arrays : θ_run defs (onTc (τ := τ) (main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xs m) (ws m)) (G' := G' (xs m) (ws m)) (u₀ := u₀)
    (hu₀ := by
      unfold u₀
      iintro Hu
      ihave H := (ownU_pair _ _) $$ Hu
      icases H with ⟨HP, HX⟩
      imod (fund_ring (xs m) (ws m)) $$ HX with HG
      imodintro
      isplitl [HP] <;> iassumption)
    (hglob := glob (xs m) (ws m))
    (hA := fun _ _ => rfl) (hpf := fun _ k => k.elim0)
    (X := start (xs m) (ws m)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_0 (c : Dev nD) : finalA m c (0 : Fin 3) = m ((c : Thread nD τ).loc main_arg0) := (dats (F := F) m 0 c).arrAt_in (0 : Fin 3) rfl _
theorem finalA_1 (c : Dev nD) : finalA m c (1 : Fin 3) = m ((c : Thread nD τ).loc main_arg1) := (dats (F := F) m 0 c).arrAt_in (1 : Fin 3) rfl _

theorem blk2_emb (i : S1024x1024.Idx) : (win0_2.blk (0 : Fin 1)).view.emb i = i := by
  funext a; fin_cases a <;> exact Fin.ext (by show 0 + 1 * _ = _; omega)

theorem finalA_2 (c : Dev nD) : finalA m c (2 : Fin 3) = (fin (xs m) (ws m) : Vec F S1024x1024 .f32) := by
  refine (dats (F := F) m 0 c).arrAt_eq_of_cover (2 : Fin 3) (fin (xs m) (ws m)) (fun t _ => ?_) (fun i => ⟨t0_0, flush0_2 _, ?_⟩)
  · rw [fin_N0 t]
    funext i
    exact congrArg (fin (xs m) (ws m)) (blk2_emb i).symm
  · exact Finset.mem_map.2 ⟨i, Finset.mem_univ _, blk2_emb i⟩

/-- Every device's result ends at the whole sum, its arguments as they were. -/
theorem run_main : θ_run defs (onTc (τ := τ) (main (F := F))) ⟨m, fun _ => 0, ρ⟩ (fun r => (∀ c : Dev nD,
      r.2.mem ((c.tc : Thread nD τ).loc main_v1) = (fin (xs m) (ws m) : Vec F S1024x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨(h.1 c (2 : Fin 3)).trans (finalA_2 m c), (h.1 c (0 : Fin 3)).trans (finalA_0 m c),
    (h.1 c (1 : Fin 3)).trans (finalA_1 m c)⟩, h.2⟩) (run_arrays m ρ)

end Cert.KernelIdeal.Gen

end
-- ==== Proof.Equation.lean ====
module

public import proofs.«01_k».proof.Proof.Run
public import proofs.«01_k».proof.Proof.Gen.ReferenceIdeal.Run
public import Idealize.ShloMosaic.Lib.KernelVsHost
public import Idealize.ShloMosaic.Lib.MatmulPlain
public import Idealize.ShloMosaic.Lib.StackMember
public import Idealize.ShloMosaic.Lib.Layout

@[expose] public section

/-! # The value

Over the extended reals the whole sum is the product of the whole arrays: each device multiplies its 256 columns of the
first by its 256 rows of the second, and the four products added in any order are the product over all 1024. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.ValueIdx

omit [FloatOps F] in
/-- A device's staged arguments are its arguments. -/
theorem xs_eq (m : (ℓ : Loc nD τ sig) → Buf (Elt F) ℓ) (c : Dev nD) : xs m c = (m ((c : Thread nD τ).loc main_arg0) : Vec F S1024x256 .f32) :=
  funext fun i => congrArg (m ((c : Thread nD τ).loc main_arg0)) (funext fun a => by
    fin_cases a <;> exact Fin.ext (by show 0 + 1 * _ = _; omega))
omit [FloatOps F] in
theorem ws_eq (m : (ℓ : Loc nD τ sig) → Buf (Elt F) ℓ) (c : Dev nD) : ws m c = (m ((c : Thread nD τ).loc main_arg1) : Vec F S256x1024 .f32) :=
  funext fun i => congrArg (m ((c : Thread nD τ).loc main_arg1)) (funext fun a => by
    fin_cases a <;> exact Fin.ext (by show 0 + 1 * _ = _; omega))

/-- A block product at an element. -/
theorem pay1_apply (x : Vec Ideal S256x256 .f32) (w : Vec Ideal S256x1024 .f32) (a : Fin 256) (q : Fin 1024) :
    k0_pay1 x w (ix2 a q) = ∑ k : Fin 256, (x (ix2 a k) : EReal) * w (ix2 k q) := by
  unfold k0_pay1
  rw [shapeCast_self, shapeCast_self, matmul_zero_eq_dotGeneral]
  exact StackMember.dotGeneral_plain_apply (m := 256) (n := 1024) (k := 256) none x w a q

section Value
variable (X : Dev nD → Vec Ideal S1024x256 .f32) (W : Dev nD → Vec Ideal S256x1024 .f32)

/-- A device's product at an element. -/
theorem prod_apply (c : Dev nD) (p q : Fin 1024) :
    prod X W c (ix2 p q) = ∑ k : Fin 256, (X c (ix2 p k) : EReal) * W c (ix2 k q) := by
  unfold prod
  refine (pay1_apply _ _ _ _).trans (Finset.sum_congr rfl fun k _ => ?_)
  congr 1
  unfold xrow
  refine congrArg (X c) (funext fun a => ?_)
  fin_cases a
  · exact Fin.ext (by show 256 * (p.val / 256) + 1 * (p.val % 256) = p.val; omega)
  · exact Fin.ext (by show 0 + 1 * k.val = k.val; omega)

/-- Once around the ring meets every device, and each once. -/
theorem ring_devices : ∀ (d : Fin 2) (c : Dev nD), (Finset.univ : Finset (Dev nD)) = {c, pv d c, pv d (pv d c), pv d (pv d (pv d c))}
    ∧ c ∉ ({pv d c, pv d (pv d c), pv d (pv d (pv d c))} : Finset (Dev nD)) ∧ pv d c ∉ ({pv d (pv d c), pv d (pv d (pv d c))} : Finset (Dev nD))
    ∧ pv d (pv d c) ∉ ({pv d (pv d (pv d c))} : Finset (Dev nD)) := by decide

/-- So a sum once around the ring is the sum over the devices. -/
theorem sum_ring (f : Dev nD → EReal) (d : Fin 2) (c : Dev nD) :
    f c + (f (pv d c) + (f (pv d (pv d c)) + f (pv d (pv d (pv d c))))) = ∑ e : Dev nD, f e := by
  obtain ⟨hu, h0, h1, h2⟩ := ring_devices d c
  rw [hu, Finset.sum_insert h0, Finset.sum_insert h1, Finset.sum_insert h2, Finset.sum_singleton]

/-- The whole sum is the sum of every device's product. -/
theorem fin_apply (i : S1024x1024.Idx) : fin X W i = ∑ c : Dev nD, (prod X W c i : EReal) := by
  unfold fin
  exact sum_ring (fun c => prod X W c i) _ _

end Value

/-- A sum over 1024 positions, 256 at a time. -/
theorem sum_blocks (f : Fin 1024 → EReal) :
    ∑ j : Fin 1024, f j = ∑ c : Fin 4, ∑ k : Fin 256, f ⟨c.val * 256 + k.val, by omega⟩ := by
  rw [← Equiv.sum_comp (finProdFinEquiv (m := 4) (n := 256)) f, Fintype.sum_prod_type]
  refine Finset.sum_congr rfl fun c _ => Finset.sum_congr rfl fun k _ => congrArg f (Fin.ext ?_)
  show k.val + 256 * c.val = c.val * 256 + k.val
  omega

/-- The reference's product at an element. -/
theorem ref_apply (A B : Vec Ideal S1024x1024 .f32) (p q : Fin 1024) :
    Host.dotGeneral (F := Ideal) (φ₁ := .f32) (φ₂ := .f32) Cert.ReferenceIdeal.dot_S1024x1024_S1024x1024_S1024x1024_1_0_0_1_n_n none A B (ix2 p q)
      = ∑ j : Fin 1024, (A (ix2 p j) : EReal) * B (ix2 j q) :=
  StackMember.dotGeneral_plain_apply (m := 1024) (n := 1024) (k := 1024) none A B p q

/-- When every device holds its columns of the first array and its rows of the second, the whole sum is the product of the
    whole arrays. -/
theorem fin_eq_ref (X : Dev nD → Vec Ideal S1024x256 .f32) (W : Dev nD → Vec Ideal S256x1024 .f32) (A B : Vec Ideal S1024x1024 .f32)
    (hX : ∀ c : Dev nD, X c = Layout.block ⟨2, ![1024, 256]⟩ ⟨2, ![1024, 1024]⟩ 1 4 c A)
    (hW : ∀ c : Dev nD, W c = Layout.block ⟨2, ![256, 1024]⟩ ⟨2, ![1024, 1024]⟩ 0 4 c B) :
    fin X W = Host.dotGeneral (F := Ideal) (φ₁ := .f32) (φ₂ := .f32) Cert.ReferenceIdeal.dot_S1024x1024_S1024x1024_S1024x1024_1_0_0_1_n_n none A B := by
  funext i
  obtain ⟨p, q, rfl⟩ : ∃ (p q : Fin 1024), i = ix2 p q := ⟨i 0, i 1, eq_ix2 i⟩
  refine (fin_apply X W _).trans (Eq.trans ?_ ((ref_apply A B p q).trans (sum_blocks _)).symm)
  refine Finset.sum_congr rfl fun c _ => (prod_apply X W c p q).trans (Finset.sum_congr rfl fun k _ => ?_)
  rw [hX c, hW c, Layout.block_apply, Layout.block_apply]
  congr 1
  · refine congrArg A (funext fun a => ?_)
    fin_cases a
    · exact Fin.ext (Layout.idx_cols_val _ c _).1
    · exact Fin.ext (Layout.idx_cols_val _ c _).2
  · refine congrArg B (funext fun a => ?_)
    fin_cases a
    · exact Fin.ext (Layout.idx_rows_val _ c _).1
    · exact Fin.ext (Layout.idx_rows_val _ c _).2

end Cert.KernelIdeal.Gen

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

set_option maxRecDepth 100000 in
/-- The kernel's body is the same text for both readings, -/
theorem bodies_eq : Cert.Kernel.defs₀ (F := Bits) = Cert.KernelIdeal.defs₀ (F := Bits) :=
  congrArg Defs.onTc (funext fun l => funext fun a => by
    match l, a with
    | ⟨0, _⟩, (t, s) => rfl)

/-- and so is its table. -/
theorem defs_eq : Cert.Kernel.defs (F := Bits) = Cert.KernelIdeal.defs (F := Bits) :=
  congrArg (Pipeline.defs Cert.KernelIdeal.pcfgs) bodies_eq

/-- The kernel at the machine's floats runs, keeps its arguments and leaves every counter at zero. -/
theorem frame_kernel : Cert.quiescent_Kernel := fun m ρ _ => by
  rw [defs_eq]
  exact (θ_run Cert.KernelIdeal.defs _ _).mono (fun _ h => ⟨fun c => (h.1 c).2, h.2⟩) (Cert.KernelIdeal.Gen.run_main (F := Bits) m ρ)

/-- The kernel over the extended reals does too, -/
theorem frame_kernelIdeal : Cert.quiescent_KernelIdeal := fun m ρ _ =>
  (θ_run Cert.KernelIdeal.defs _ _).mono (fun _ h => ⟨fun c => (h.1 c).2, h.2⟩) (Cert.KernelIdeal.Gen.run_main (F := Ideal) m ρ)

/-- and the reference. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device's result is the reference's. -/
theorem value : Cert.algebraic_KernelIdeal_ReferenceIdeal := fun m ρ m' ρ' _ hb =>
  ⟨_, (θ_run Cert.KernelIdeal.defs _ _).mono (fun _ h c => ⟨(h.1 c).1.trans
      (Cert.KernelIdeal.Gen.fin_eq_ref _ _ _ _
        (fun d => (Cert.KernelIdeal.Gen.xs_eq m d).trans (hb d).1) (fun d => (Cert.KernelIdeal.Gen.ws_eq m d).trans (hb d).2)), (h.1 c).2⟩)
      (Cert.KernelIdeal.Gen.run_main (F := Ideal) m ρ),
    (θ_run Cert.ReferenceIdeal.defs _ _).mono (fun _ h => h 0) (Cert.ReferenceIdeal.Value.run (F := Ideal) m' ρ')⟩

/-- Every claim. -/
theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
